-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "w1" .f32 0xBCCCCCCD#32 ((-1 / 40 : ℝ) : EReal)
  ∧ IdealRules.named_const.Statement Cert.KernelIdeal.κ "w2" .f32 0xBC638E39#32 ((-1 / 72 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v33_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v243) = v0 c
          ∧ r.2.mem ((c.tc : Thread Cert.ReferenceIdeal.nD Cert.ReferenceIdeal.τ).loc Cert.ReferenceIdeal.main_v343) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x512x28x28 : Shape := ⟨4, ![2, 512, 28, 28]⟩
abbrev S2x1024x14x14 : Shape := ⟨4, ![2, 1024, 14, 14]⟩
abbrev S100000x128 : Shape := ⟨2, ![100000, 128]⟩
abbrev S_ : Shape := ⟨0, ![]⟩

class Facts : Prop where
  bcast_S_S2x512x28x28 : S_.BroadcastsInDim S2x512x28x28 (![] : Fin 0 → Fin S2x512x28x28.rank)
  reducesTo_S2x512x28x28_S_d0_1_2_3 : S2x512x28x28.ReducesTo [0, 1, 2, 3] S_
  h_S_ : 0 < S_.numel
  bcast_S_S2x1024x14x14 : S_.BroadcastsInDim S2x1024x14x14 (![] : Fin 0 → Fin S2x1024x14x14.rank)
  reducesTo_S2x1024x14x14_S_d0_1_2_3 : S2x1024x14x14.ReducesTo [0, 1, 2, 3] S_
  bcast_S_S100000x128 : S_.BroadcastsInDim S100000x128 (![] : Fin 0 → Fin S100000x128.rank)
  reducesTo_S100000x128_S_d0_1 : S100000x128.ReducesTo [0, 1] S_

variable [Facts]

def fn {F : FTy → Type} [FloatOps F] (main_arg0 : FVec F S2x512x28x28 .f32) (main_arg1 : FVec F S2x1024x14x14 .f32) (main_arg2 : FVec F S100000x128 .f32) : IVec S_ 1 :=
  let main_v0 : FVec F S2x512x28x28 .f32 := Host.absf main_arg0
  let main_cst : FVec F S_ .f32 := constant S_ .f32 0x7F800000#32
  let main_v1 : FVec F S2x512x28x28 .f32 := broadcastInDim S2x512x28x28 ![] bcast_S_S2x512x28x28 main_cst
  let main_v2 : IVec S2x512x28x28 1 := cmpf .olt main_v0 main_v1
  let main_c : IVec S_ 1 := constantI S_ 1 1#1
  let main_v3 : IVec S_ 1 := (fun x v => Host.reduce IntOp.andi x v reducesTo_S2x512x28x28_S_d0_1_2_3 h_S_) main_v2 main_c
  let main_v4 : FVec F S2x1024x14x14 .f32 := Host.absf main_arg1
  let main_cst_0 : FVec F S_ .f32 := constant S_ .f32 0x7F800000#32
  let main_v5 : FVec F S2x1024x14x14 .f32 := broadcastInDim S2x1024x14x14 ![] bcast_S_S2x1024x14x14 main_cst_0
  let main_v6 : IVec S2x1024x14x14 1 := cmpf .olt main_v4 main_v5
  let main_c_1 : IVec S_ 1 := constantI S_ 1 1#1
  let main_v7 : IVec S_ 1 := (fun x v => Host.reduce IntOp.andi x v reducesTo_S2x1024x14x14_S_d0_1_2_3 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  main_v13
-- ==== Kernel.lean ====
abbrev S2x512x28x28 : Shape := ⟨4, ![2, 512, 28, 28]⟩
abbrev S2x1024x14x14 : Shape := ⟨4, ![2, 1024, 14, 14]⟩
abbrev S100000x128 : Shape := ⟨2, ![100000, 128]⟩
abbrev S28x28 : Shape := ⟨2, ![28, 28]⟩
abbrev S28x14 : Shape := ⟨2, ![28, 14]⟩
abbrev S224x28 : Shape := ⟨2, ![224, 28]⟩
abbrev S128x8x784 : Shape := ⟨3, ![128, 8, 784]⟩
abbrev S_ : Shape := ⟨0, ![]⟩
abbrev S128x8x896 : Shape := ⟨3, ![128, 8, 896]⟩
abbrev S128x16x196 : Shape := ⟨3, ![128, 16, 196]⟩
abbrev S128x16x256 : Shape := ⟨3, ![128, 16, 256]⟩
abbrev S28x1x1x28 : Shape := ⟨4, ![28, 1, 1, 28]⟩
abbrev S1x28x28x1 : Shape := ⟨4, ![1, 28, 28, 1]⟩
abbrev S28x28x28x28 : Shape := ⟨4, ![28, 28, 28, 28]⟩
abbrev S784x784 : Shape := ⟨2, ![784, 784]⟩
abbrev S896x896 : Shape := ⟨2, ![896, 896]⟩
abbrev S14x28 : Shape := ⟨2, ![14, 28]⟩
abbrev S14x1x1x28 : Shape := ⟨4, ![14, 1, 1, 28]⟩
abbrev S1x14x28x1 : Shape := ⟨4, ![1, 14, 28, 1]⟩
abbrev S14x14x28x28 : Shape := ⟨4, ![14, 14, 28, 28]⟩
abbrev S196x784 : Shape := ⟨2, ![196, 784]⟩
abbrev S256x896 : Shape := ⟨2, ![256, 896]⟩
abbrev S1x1568 : Shape := ⟨2, ![1, 1568]⟩
abbrev S10000x128 : Shape := ⟨2, ![10000, 128]⟩
abbrev S128x1568 : Shape := ⟨2, ![128, 1568]⟩
abbrev S128x896 : Shape := ⟨2, ![128, 896]⟩
abbrev S128x256 : Shape := ⟨2, ![128, 256]⟩
abbrev S64x784 : Shape := ⟨2, ![64, 784]⟩
abbrev S64x896 : Shape := ⟨2, ![64, 896]⟩
abbrev S896 : Shape := ⟨1, ![896]⟩
abbrev S784 : Shape := ⟨1, ![784]⟩
abbrev S1x784 : Shape := ⟨2, ![1, 784]⟩
abbrev S10000 : Shape := ⟨1, ![10000]⟩
abbrev S10000x1 : Shape := ⟨2, ![10000, 1]⟩
abbrev S10000x1568 : Shape := ⟨2, ![10000, 1568]⟩
abbrev S1568 : Shape := ⟨1, ![1568]⟩
abbrev S2x28x28 : Shape := ⟨3, ![2, 28, 28]⟩
abbrev S1x2 : Shape := ⟨2, ![1, 2]⟩
abbrev S2x224x224 : Shape := ⟨3, ![2, 224, 224]⟩
abbrev S2x28x224 : Shape := ⟨3, ![2, 28, 224]⟩
abbrev S2 : Shape := ⟨1, ![2]⟩

abbrev nBuf : Space → Nat
  | .hbm => 51
  | .vmem => 14
  | .smem => 0
  | _ => 0

abbrev bufTy : (tb : Table) → Fin (tcTables nBuf tb) → BufTy
  | .hbm, ⟨0, _⟩ => ⟨S2x512x28x28, .f32⟩
  | .hbm, ⟨1, _⟩ => ⟨S2x1024x14x14, .f32⟩
  | .hbm, ⟨2, _⟩ => ⟨S100000x128, .f32⟩
  | .hbm, ⟨3, _⟩ => ⟨S28x28, .f32⟩
  | .hbm, ⟨4, _⟩ => ⟨S28x28, .f32⟩
  | .hbm, ⟨5, _⟩ => ⟨S28x14, .f32⟩
  | .hbm, ⟨6, _⟩ => ⟨S224x28, .f32⟩
  | .hbm, ⟨7, _⟩ => ⟨S128x8x784, .f32⟩
  | .hbm, ⟨8, _⟩ => ⟨S_, .i32⟩
  | .hbm, ⟨9, _⟩ => ⟨S_, .f32⟩
  | .hbm, ⟨10, _⟩ => ⟨S128x8x896, .f32⟩
  | .hbm, ⟨11, _⟩ => ⟨S128x16x196, .f32⟩
  | .hbm, ⟨12, _⟩ => ⟨S_, .i32⟩
  | .hbm, ⟨13, _⟩ => ⟨S_, .f32⟩
  | .hbm, ⟨14, _⟩ => ⟨S128x16x256, .f32⟩
  | .hbm, ⟨15, _⟩ => ⟨S28x28, .f32⟩
  | .hbm, ⟨16, _⟩ => ⟨S28x1x1x28, .f32⟩
  | .hbm, ⟨17, _⟩ => ⟨S28x28, .f32⟩
  | .hbm, ⟨18, _⟩ => ⟨S1x28x28x1, .f32⟩
  | .hbm, ⟨19, _⟩ => ⟨S28x28x28x28, .f32⟩
  | .hbm, ⟨20, _⟩ => ⟨S28x28x28x28, .f32⟩
  | .hbm, ⟨21, _⟩ => ⟨S28x28x28x28, .f32⟩
  | .hbm, ⟨22, _⟩ => ⟨S784x784, .f32⟩
  | .hbm, ⟨23, _⟩ => ⟨S28x28, .f32⟩
  | .hbm, ⟨24, _⟩ => ⟨S28x1x1x28, .f32⟩
  | .hbm, ⟨25, _⟩ => ⟨S28x28, .f32⟩
  | .hbm, ⟨26, _⟩ => ⟨S1x28x28x1, .f32⟩
  | .hbm, ⟨27, _⟩ => ⟨S28x28x28x28, .f32⟩
  | .hbm, ⟨28, _⟩ => ⟨S28x28x28x28, .f32⟩
  | .hbm, ⟨29, _⟩ => ⟨S28x28x28x28, .f32⟩
  | .hbm, ⟨30, _⟩ => ⟨S784x784, .f32⟩
  | .hbm, ⟨31, _⟩ => ⟨S784x784, .f32⟩
  | .hbm, ⟨32, _⟩ => ⟨S_, .i32⟩
  | .hbm, ⟨33, _⟩ => ⟨S_, .f32⟩
  | .hbm, ⟨34, _⟩ => ⟨S896x896, .f32⟩
  | .hbm, ⟨35, _⟩ => ⟨S14x28, .f32⟩
  | .hbm, ⟨36, _⟩ => ⟨S14x1x1x28, .f32⟩
  | .hbm, ⟨37, _⟩ => ⟨S14x28, .f32⟩
  | .hbm, ⟨38, _⟩ => ⟨S1x14x28x1, .f32⟩
  | .hbm, ⟨39, _⟩ => ⟨S14x14x28x28, .f32⟩
  | .hbm, ⟨40, _⟩ => ⟨S14x14x28x28, .f32⟩
  | .hbm, ⟨41, _⟩ => ⟨S14x14x28x28, .f32⟩
  | .hbm, ⟨42, _⟩ => ⟨S196x784, .f32⟩
  | .hbm, ⟨43, _⟩ => ⟨S_, .i32⟩
  | .hbm, ⟨44, _⟩ => ⟨S_, .f32⟩
  | .hbm, ⟨45, _⟩ => ⟨S256x896, .f32⟩
  | .hbm, ⟨46, _⟩ => ⟨S1x1568, .f32⟩
  | .hbm, ⟨47, _⟩ => ⟨S2x28x28, .f32⟩
  | .hbm, ⟨48, _⟩ => ⟨S1x2, .f32⟩
  | .hbm, ⟨49, _⟩ => ⟨S2x224x224, .f32⟩
  | .hbm, ⟨50, _⟩ => ⟨S2, .f32⟩
  | .local _ .vmem, ⟨0, _⟩ => ⟨S128x8x896, .f32⟩
  | .local _ .vmem, ⟨1, _⟩ => ⟨S128x16x256, .f32⟩
  | .local _ .vmem, ⟨2, _⟩ => ⟨S896x896, .f32⟩
  | .local _ .vmem, ⟨3, _⟩ => ⟨S256x896, .f32⟩
  | .local _ .vmem, ⟨4, _⟩ => ⟨S10000x128, .f32⟩
  | .local _ .vmem, ⟨5, _⟩ => ⟨S10000x128, .f32⟩
  | .local _ .vmem, ⟨6, _⟩ => ⟨S1x1568, .f32⟩
  | .local _ .vmem, ⟨7, _⟩ => ⟨S128x1568, .fp8e4m3⟩
  | .local _ .vmem, ⟨8, _⟩ => ⟨S1x1568, .f32⟩
  | .local _ .vmem, ⟨9, _⟩ => ⟨S1x1568, .f32⟩
  | .local _ .vmem, ⟨10, _⟩ => ⟨S2x28x28, .f32⟩
  | .local _ .vmem, ⟨11, _⟩ => ⟨S224x28, .f32⟩
  | .local _ .vmem, ⟨12, _⟩ => ⟨S1x2, .f32⟩
  | .local _ .vmem, ⟨13, _⟩ => ⟨S2x224x224, .f32⟩
  | _, _ => ⟨S2x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_3 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_call2_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_call3_v0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33_0 : Ref sig .tc := ⟨.hbm, 48, rfl⟩
abbrev main_v33_1 : Ref sig .tc := ⟨.hbm, 49, rfl⟩
abbrev main_v34 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc1_sem0_0 : DmaSem sig := 7
abbrev cc1_sem1_0 : DmaSem sig := 8
abbrev cc1_sem2_0 : DmaSem sig := 9
abbrev cc1_sem3_0 : DmaSem sig := 10

abbrev nD : Nat := 1
abbrev τ : Topo := Topo.v7x

variable {F : FTy → Type} [FloatOps F]

abbrev grid0 : Pipeline.Grid := ⟨1, ![10], ![false]⟩

def k0_cond4 (i : grid0.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_10 : BitVec 32 := 0#32
  let v22 : BitVec 1 := Scalar.cmpi .ne v21 c0_i32_10
  v22

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x8x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S896x896 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1568 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := .none

abbrev stage1_0 : Fin 1 → Memref sig .tc .vmem S2x28x28 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S224x28 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2x224x224 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== KernelIdeal.lean ====
variable {F : FTy → Type} [FloatOps F] [Named F]
def κ : String → Option EReal := fun
  | "w1" => some ((-1 / 40 : ℝ) : EReal)
  | "w2" => some ((-1 / 72 : ℝ) : EReal)
  | _ => none
-- ==== ReferenceIdeal.lean ====
abbrev S2x512x28x28 : Shape := ⟨4, ![2, 512, 28, 28]⟩
abbrev S2x1024x14x14 : Shape := ⟨4, ![2, 1024, 14, 14]⟩
abbrev S100000x128 : Shape := ⟨2, ![100000, 128]⟩
abbrev S_ : Shape := ⟨0, ![]⟩
abbrev S2x512x30x30 : Shape := ⟨4, ![2, 512, 30, 30]⟩
abbrev S2x512x1x28x28 : Shape := ⟨5, ![2, 512, 1, 28, 28]⟩
abbrev S2x512x9x28x28 : Shape := ⟨5, ![2, 512, 9, 28, 28]⟩
abbrev S2x512x3x3x784 : Shape := ⟨5, ![2, 512, 3, 3, 784]⟩
abbrev S2x784x512x3x3 : Shape := ⟨5, ![2, 784, 512, 3, 3]⟩
abbrev S2x1024x16x16 : Shape := ⟨4, ![2, 1024, 16, 16]⟩
abbrev S2x1024x1x14x14 : Shape := ⟨5, ![2, 1024, 1, 14, 14]⟩
abbrev S2x1024x9x14x14 : Shape := ⟨5, ![2, 1024, 9, 14, 14]⟩
abbrev S2x1024x3x3x196 : Shape := ⟨5, ![2, 1024, 3, 3, 196]⟩
abbrev S2x196x1024x3x3 : Shape := ⟨5, ![2, 196, 1024, 3, 3]⟩
abbrev S2x14x14x1024x3x3 : Shape := ⟨6, ![2, 14, 14, 1024, 3, 3]⟩
abbrev S2x1024x3x3x14x14 : Shape := ⟨6, ![2, 1024, 3, 3, 14, 14]⟩
abbrev S18432x14x14 : Shape := ⟨3, ![18432, 14, 14]⟩
abbrev S28 : Shape := ⟨1, ![28]⟩
abbrev S14 : Shape := ⟨1, ![14]⟩
abbrev S1x28 : Shape := ⟨2, ![1, 28]⟩
abbrev S14x1 : Shape := ⟨2, ![14, 1]⟩
abbrev S14x28 : Shape := ⟨2, ![14, 28]⟩
abbrev S28x18432x14 : Shape := ⟨3, ![28, 18432, 14]⟩
abbrev S28x18432x28 : Shape := ⟨3, ![28, 18432, 28]⟩
abbrev S18432x28x28 : Shape := ⟨3, ![18432, 28, 28]⟩
abbrev S2x1024x3x3x28x28 : Shape := ⟨6, ![2, 1024, 3, 3, 28, 28]⟩
abbrev S2x28x28x1024x3x3 : Shape := ⟨6, ![2, 28, 28, 1024, 3, 3]⟩
abbrev S2x784x1024x3x3 : Shape := ⟨5, ![2, 784, 1024, 3, 3]⟩
abbrev S1568x4608 : Shape := ⟨2, ![1568, 4608]⟩
abbrev S1568x9216 : Shape := ⟨2, ![1568, 9216]⟩
abbrev S1024x4608 : Shape := ⟨2, ![1024, 4608]⟩
abbrev S1024x9216 : Shape := ⟨2, ![1024, 9216]⟩
abbrev S4608x1024 : Shape := ⟨2, ![4608, 1024]⟩
abbrev S1568x1024 : Shape := ⟨2, ![1568, 1024]⟩
abbrev S9216x1024 : Shape := ⟨2, ![9216, 1024]⟩
abbrev S1568x1x1024 : Shape := ⟨3, ![1568, 1, 1024]⟩
abbrev S1568x2x1024 : Shape := ⟨3, ![1568, 2, 1024]⟩
abbrev S1568x2048 : Shape := ⟨2, ![1568, 2048]⟩
abbrev S128x2048 : Shape := ⟨2, ![128, 2048]⟩
abbrev S2048x128 : Shape := ⟨2, ![2048, 128]⟩
abbrev S1568x128 : Shape := ⟨2, ![1568, 128]⟩
abbrev S1568 : Shape := ⟨1, ![1568]⟩
abbrev S1568x1 : Shape := ⟨2, ![1568, 1]⟩
abbrev S100000 : Shape := ⟨1, ![100000]⟩
abbrev S1x100000 : Shape := ⟨2, ![1, 100000]⟩
abbrev S1568x100000 : Shape := ⟨2, ![1568, 100000]⟩
abbrev S128x100000 : Shape := ⟨2, ![128, 100000]⟩
abbrev S2x784 : Shape := ⟨2, ![2, 784]⟩
abbrev S2 : Shape := ⟨1, ![2]⟩
abbrev S2x28x28 : Shape := ⟨3, ![2, 28, 28]⟩
abbrev S224 : Shape := ⟨1, ![224]⟩
abbrev S1x224 : Shape := ⟨2, ![1, 224]⟩
abbrev S28x1 : Shape := ⟨2, ![28, 1]⟩
abbrev S28x224 : Shape := ⟨2, ![28, 224]⟩
abbrev S224x2x28 : Shape := ⟨3, ![224, 2, 28]⟩
abbrev S224x2x224 : Shape := ⟨3, ![224, 2, 224]⟩
abbrev S2x224x224 : Shape := ⟨3, ![2, 224, 224]⟩

abbrev nBuf : Space → Nat
  | .hbm => 450
  | .vmem => 0
  | .smem => 0
  | _ => 0

abbrev hbmTy0_0 (i : Nat) : BufTy := match i % 128 with
  | 0 => ⟨S2x512x28x28, .f32⟩
  | 1 => ⟨S2x1024x14x14, .f32⟩
  | 2 => ⟨S100000x128, .f32⟩
  | 3 => ⟨S_, .i32⟩
  | 4 => ⟨S_, .f32⟩
  | 5 => ⟨S2x512x30x30, .f32⟩
  | 6 => ⟨S2x512x28x28, .f32⟩
  | 7 => ⟨S2x512x28x28, .f32⟩
  | 8 => ⟨S2x512x28x28, .f32⟩
  | 9 => ⟨S2x512x28x28, .f32⟩
  | 10 => ⟨S2x512x28x28, .f32⟩
  | 11 => ⟨S2x512x28x28, .f32⟩
  | 12 => ⟨S2x512x28x28, .f32⟩
  | 13 => ⟨S2x512x28x28, .f32⟩
  | 14 => ⟨S2x512x28x28, .f32⟩
  | 15 => ⟨S2x512x1x28x28, .f32⟩
  | 16 => ⟨S2x512x1x28x28, .f32⟩
  | 17 => ⟨S2x512x1x28x28, .f32⟩
  | 18 => ⟨S2x512x1x28x28, .f32⟩
  | 19 => ⟨S2x512x1x28x28, .f32⟩
  | 20 => ⟨S2x512x1x28x28, .f32⟩
  | 21 => ⟨S2x512x1x28x28, .f32⟩
  | 22 => ⟨S2x512x1x28x28, .f32⟩
  | 23 => ⟨S2x512x1x28x28, .f32⟩
  | 24 => ⟨S2x512x9x28x28, .f32⟩
  | 25 => ⟨S2x512x3x3x784, .f32⟩
  | 26 => ⟨S2x784x512x3x3, .f32⟩
  | 27 => ⟨S_, .i32⟩
  | 28 => ⟨S_, .f32⟩
  | 29 => ⟨S2x1024x16x16, .f32⟩
  | 30 => ⟨S2x1024x14x14, .f32⟩
  | 31 => ⟨S2x1024x14x14, .f32⟩
  | 32 => ⟨S2x1024x14x14, .f32⟩
  | 33 => ⟨S2x1024x14x14, .f32⟩
  | 34 => ⟨S2x1024x14x14, .f32⟩
  | 35 => ⟨S2x1024x14x14, .f32⟩
  | 36 => ⟨S2x1024x14x14, .f32⟩
  | 37 => ⟨S2x1024x14x14, .f32⟩
  | 38 => ⟨S2x1024x14x14, .f32⟩
  | 39 => ⟨S2x1024x1x14x14, .f32⟩
  | 40 => ⟨S2x1024x1x14x14, .f32⟩
  | 41 => ⟨S2x1024x1x14x14, .f32⟩
  | 42 => ⟨S2x1024x1x14x14, .f32⟩
  | 43 => ⟨S2x1024x1x14x14, .f32⟩
  | 44 => ⟨S2x1024x1x14x14, .f32⟩
  | 45 => ⟨S2x1024x1x14x14, .f32⟩
  | 46 => ⟨S2x1024x1x14x14, .f32⟩
  | 47 => ⟨S2x1024x1x14x14, .f32⟩
  | 48 => ⟨S2x1024x9x14x14, .f32⟩
  | 49 => ⟨S2x1024x3x3x196, .f32⟩
  | 50 => ⟨S2x196x1024x3x3, .f32⟩
  | 51 => ⟨S2x14x14x1024x3x3, .f32⟩
  | 52 => ⟨S2x1024x3x3x14x14, .f32⟩
  | 53 => ⟨S18432x14x14, .f32⟩
  | 54 => ⟨S_, .f32⟩
  | 55 => ⟨S_, .f32⟩
  | 56 => ⟨S_, .f32⟩
  | 57 => ⟨S28, .f32⟩
  | 58 => ⟨S_, .f32⟩
  | 59 => ⟨S28, .f32⟩
  | 60 => ⟨S28, .f32⟩
  | 61 => ⟨S_, .f32⟩
  | 62 => ⟨S28, .f32⟩
  | 63 => ⟨S28, .f32⟩
  | 64 => ⟨S_, .f32⟩
  | 65 => ⟨S28, .f32⟩
  | 66 => ⟨S28, .f32⟩
  | 67 => ⟨S_, .f32⟩
  | 68 => ⟨S28, .f32⟩
  | 69 => ⟨S28, .f32⟩
  | 70 => ⟨S14, .f32⟩
  | 71 => ⟨S1x28, .f32⟩
  | 72 => ⟨S14x1, .f32⟩
  | 73 => ⟨S14x28, .f32⟩
  | 74 => ⟨S14x28, .f32⟩
  | 75 => ⟨S14x28, .f32⟩
  | 76 => ⟨S14x28, .f32⟩
  | 77 => ⟨S_, .f32⟩
  | 78 => ⟨S14x28, .f32⟩
  | 79 => ⟨S14x28, .f32⟩
  | 80 => ⟨S14x28, .f32⟩
  | 81 => ⟨S_, .f32⟩
  | 82 => ⟨S14x28, .f32⟩
  | 83 => ⟨S14x28, .f32⟩
  | 84 => ⟨S_, .f32⟩
  | 85 => ⟨S14x28, .f32⟩
  | 86 => ⟨S14x28, .f32⟩
  | 87 => ⟨S_, .f32⟩
  | 88 => ⟨S28, .f32⟩
  | 89 => ⟨S1x28, .f32⟩
  | 90 => ⟨S1x28, .f32⟩
  | 91 => ⟨S_, .f32⟩
  | 92 => ⟨S1x28, .f32⟩
  | 93 => ⟨S1x28, .i1⟩
  | 94 => ⟨S_, .f32⟩
  | 95 => ⟨S1x28, .f32⟩
  | 96 => ⟨S1x28, .i1⟩
  | 97 => ⟨S_, .f32⟩
  | 98 => ⟨S1x28, .f32⟩
  | 99 => ⟨S1x28, .f32⟩
  | 100 => ⟨S14x28, .f32⟩
  | 101 => ⟨S14x28, .f32⟩
  | 102 => ⟨S14x28, .i1⟩
  | 103 => ⟨S_, .f32⟩
  | 104 => ⟨S14x28, .f32⟩
  | 105 => ⟨S14x28, .f32⟩
  | 106 => ⟨S_, .f32⟩
  | 107 => ⟨S28, .f32⟩
  | 108 => ⟨S28, .i1⟩
  | 109 => ⟨S_, .f32⟩
  | 110 => ⟨S28, .f32⟩
  | 111 => ⟨S28, .i1⟩
  | 112 => ⟨S28, .i1⟩
  | 113 => ⟨S1x28, .i1⟩
  | 114 => ⟨S14x28, .i1⟩
  | 115 => ⟨S_, .f32⟩
  | 116 => ⟨S14x28, .f32⟩
  | 117 => ⟨S14x28, .f32⟩
  | 118 => ⟨S_, .f32⟩
  | 119 => ⟨S_, .f32⟩
  | 120 => ⟨S_, .f32⟩
  | 121 => ⟨S28, .f32⟩
  | 122 => ⟨S_, .f32⟩
  | 123 => ⟨S28, .f32⟩
  | 124 => ⟨S28, .f32⟩
  | 125 => ⟨S_, .f32⟩
  | 126 => ⟨S28, .f32⟩
  | 127 => ⟨S28, .f32⟩
  | _ => ⟨S2x512x28x28, .f32⟩

abbrev hbmTy0_1 (i : Nat) : BufTy := match i % 128 with
  | 0 => ⟨S_, .f32⟩
  | 1 => ⟨S28, .f32⟩
  | 2 => ⟨S28, .f32⟩
  | 3 => ⟨S_, .f32⟩
  | 4 => ⟨S28, .f32⟩
  | 5 => ⟨S28, .f32⟩
  | 6 => ⟨S14, .f32⟩
  | 7 => ⟨S1x28, .f32⟩
  | 8 => ⟨S14x1, .f32⟩
  | 9 => ⟨S14x28, .f32⟩
  | 10 => ⟨S14x28, .f32⟩
  | 11 => ⟨S14x28, .f32⟩
  | 12 => ⟨S14x28, .f32⟩
  | 13 => ⟨S_, .f32⟩
  | 14 => ⟨S14x28, .f32⟩
  | 15 => ⟨S14x28, .f32⟩
  | 16 => ⟨S14x28, .f32⟩
  | 17 => ⟨S_, .f32⟩
  | 18 => ⟨S14x28, .f32⟩
  | 19 => ⟨S14x28, .f32⟩
  | 20 => ⟨S_, .f32⟩
  | 21 => ⟨S14x28, .f32⟩
  | 22 => ⟨S14x28, .f32⟩
  | 23 => ⟨S_, .f32⟩
  | 24 => ⟨S28, .f32⟩
  | 25 => ⟨S1x28, .f32⟩
  | 26 => ⟨S1x28, .f32⟩
  | 27 => ⟨S_, .f32⟩
  | 28 => ⟨S1x28, .f32⟩
  | 29 => ⟨S1x28, .i1⟩
  | 30 => ⟨S_, .f32⟩
  | 31 => ⟨S1x28, .f32⟩
  | 32 => ⟨S1x28, .i1⟩
  | 33 => ⟨S_, .f32⟩
  | 34 => ⟨S1x28, .f32⟩
  | 35 => ⟨S1x28, .f32⟩
  | 36 => ⟨S14x28, .f32⟩
  | 37 => ⟨S14x28, .f32⟩
  | 38 => ⟨S14x28, .i1⟩
  | 39 => ⟨S_, .f32⟩
  | 40 => ⟨S14x28, .f32⟩
  | 41 => ⟨S14x28, .f32⟩
  | 42 => ⟨S_, .f32⟩
  | 43 => ⟨S28, .f32⟩
  | 44 => ⟨S28, .i1⟩
  | 45 => ⟨S_, .f32⟩
  | 46 => ⟨S28, .f32⟩
  | 47 => ⟨S28, .i1⟩
  | 48 => ⟨S28, .i1⟩
  | 49 => ⟨S1x28, .i1⟩
  | 50 => ⟨S14x28, .i1⟩
  | 51 => ⟨S_, .f32⟩
  | 52 => ⟨S14x28, .f32⟩
  | 53 => ⟨S14x28, .f32⟩
  | 54 => ⟨S28x18432x14, .f32⟩
  | 55 => ⟨S28x18432x28, .f32⟩
  | 56 => ⟨S18432x28x28, .f32⟩
  | 57 => ⟨S2x1024x3x3x28x28, .f32⟩
  | 58 => ⟨S2x28x28x1024x3x3, .f32⟩
  | 59 => ⟨S2x784x1024x3x3, .f32⟩
  | 60 => ⟨S1568x4608, .f32⟩
  | 61 => ⟨S1568x9216, .f32⟩
  | 62 => ⟨S1024x4608, .i32⟩
  | 63 => ⟨S1024x4608, .i32⟩
  | 64 => ⟨S_, .i32⟩
  | 65 => ⟨S1024x4608, .i32⟩
  | 66 => ⟨S1024x4608, .i32⟩
  | 67 => ⟨S_, .i32⟩
  | 68 => ⟨S1024x4608, .i32⟩
  | 69 => ⟨S1024x4608, .i32⟩
  | 70 => ⟨S_, .i32⟩
  | 71 => ⟨S1024x4608, .i32⟩
  | 72 => ⟨S1024x4608, .i32⟩
  | 73 => ⟨S_, .i32⟩
  | 74 => ⟨S1024x4608, .i32⟩
  | 75 => ⟨S1024x4608, .i32⟩
  | 76 => ⟨S_, .i32⟩
  | 77 => ⟨S1024x4608, .i32⟩
  | 78 => ⟨S1024x4608, .i32⟩
  | 79 => ⟨S_, .i32⟩
  | 80 => ⟨S1024x4608, .i32⟩
  | 81 => ⟨S1024x4608, .i32⟩
  | 82 => ⟨S1024x4608, .i1⟩
  | 83 => ⟨S1024x4608, .i1⟩
  | 84 => ⟨S1024x4608, .i1⟩
  | 85 => ⟨S1024x4608, .i32⟩
  | 86 => ⟨S1024x4608, .f32⟩
  | 87 => ⟨S_, .f32⟩
  | 88 => ⟨S1024x4608, .f32⟩
  | 89 => ⟨S1024x4608, .f32⟩
  | 90 => ⟨S_, .f32⟩
  | 91 => ⟨S_, .f32⟩
  | 92 => ⟨S1024x4608, .f32⟩
  | 93 => ⟨S1024x4608, .f32⟩
  | 94 => ⟨S1024x9216, .i32⟩
  | 95 => ⟨S1024x9216, .i32⟩
  | 96 => ⟨S_, .i32⟩
  | 97 => ⟨S1024x9216, .i32⟩
  | 98 => ⟨S1024x9216, .i32⟩
  | 99 => ⟨S_, .i32⟩
  | 100 => ⟨S1024x9216, .i32⟩
  | 101 => ⟨S1024x9216, .i32⟩
  | 102 => ⟨S_, .i32⟩
  | 103 => ⟨S1024x9216, .i32⟩
  | 104 => ⟨S1024x9216, .i32⟩
  | 105 => ⟨S_, .i32⟩
  | 106 => ⟨S1024x9216, .i32⟩
  | 107 => ⟨S1024x9216, .i32⟩
  | 108 => ⟨S_, .i32⟩
  | 109 => ⟨S1024x9216, .i32⟩
  | 110 => ⟨S1024x9216, .i32⟩
  | 111 => ⟨S_, .i32⟩
  | 112 => ⟨S1024x9216, .i32⟩
  | 113 => ⟨S1024x9216, .i32⟩
  | 114 => ⟨S1024x9216, .i1⟩
  | 115 => ⟨S1024x9216, .i1⟩
  | 116 => ⟨S1024x9216, .i1⟩
  | 117 => ⟨S1024x9216, .i32⟩
  | 118 => ⟨S1024x9216, .f32⟩
  | 119 => ⟨S_, .f32⟩
  | 120 => ⟨S1024x9216, .f32⟩
  | 121 => ⟨S1024x9216, .f32⟩
  | 122 => ⟨S_, .f32⟩
  | 123 => ⟨S_, .f32⟩
  | 124 => ⟨S1024x9216, .f32⟩
  | 125 => ⟨S1024x9216, .f32⟩
  | 126 => ⟨S4608x1024, .f32⟩
  | 127 => ⟨S1568x1024, .f32⟩
  | _ => ⟨S2x512x28x28, .f32⟩

abbrev hbmTy0_2 (i : Nat) : BufTy := match i % 128 with
  | 0 => ⟨S9216x1024, .f32⟩
  | 1 => ⟨S1568x1024, .f32⟩
  | 2 => ⟨S1568x1x1024, .f32⟩
  | 3 => ⟨S1568x1x1024, .f32⟩
  | 4 => ⟨S1568x2x1024, .f32⟩
  | 5 => ⟨S1568x2048, .f32⟩
  | 6 => ⟨S128x2048, .i32⟩
  | 7 => ⟨S128x2048, .i32⟩
  | 8 => ⟨S_, .i32⟩
  | 9 => ⟨S128x2048, .i32⟩
  | 10 => ⟨S128x2048, .i32⟩
  | 11 => ⟨S_, .i32⟩
  | 12 => ⟨S128x2048, .i32⟩
  | 13 => ⟨S128x2048, .i32⟩
  | 14 => ⟨S_, .i32⟩
  | 15 => ⟨S128x2048, .i32⟩
  | 16 => ⟨S128x2048, .i32⟩
  | 17 => ⟨S_, .i32⟩
  | 18 => ⟨S128x2048, .i32⟩
  | 19 => ⟨S128x2048, .i32⟩
  | 20 => ⟨S_, .i32⟩
  | 21 => ⟨S128x2048, .i32⟩
  | 22 => ⟨S128x2048, .i32⟩
  | 23 => ⟨S_, .i32⟩
  | 24 => ⟨S128x2048, .i32⟩
  | 25 => ⟨S128x2048, .i32⟩
  | 26 => ⟨S128x2048, .i1⟩
  | 27 => ⟨S128x2048, .i1⟩
  | 28 => ⟨S128x2048, .i1⟩
  | 29 => ⟨S128x2048, .i32⟩
  | 30 => ⟨S128x2048, .f32⟩
  | 31 => ⟨S_, .f32⟩
  | 32 => ⟨S128x2048, .f32⟩
  | 33 => ⟨S128x2048, .f32⟩
  | 34 => ⟨S_, .f32⟩
  | 35 => ⟨S_, .f32⟩
  | 36 => ⟨S128x2048, .f32⟩
  | 37 => ⟨S128x2048, .f32⟩
  | 38 => ⟨S2048x128, .f32⟩
  | 39 => ⟨S1568x128, .f32⟩
  | 40 => ⟨S1568x128, .f32⟩
  | 41 => ⟨S_, .f32⟩
  | 42 => ⟨S1568, .f32⟩
  | 43 => ⟨S1568x1, .f32⟩
  | 44 => ⟨S100000x128, .f32⟩
  | 45 => ⟨S_, .f32⟩
  | 46 => ⟨S100000, .f32⟩
  | 47 => ⟨S1x100000, .f32⟩
  | 48 => ⟨S1568x100000, .f32⟩
  | 49 => ⟨S1568x100000, .f32⟩
  | 50 => ⟨S1568x100000, .f32⟩
  | 51 => ⟨S128x100000, .f32⟩
  | 52 => ⟨S1568x100000, .f32⟩
  | 53 => ⟨S_, .f32⟩
  | 54 => ⟨S1568x100000, .f32⟩
  | 55 => ⟨S1568x100000, .f32⟩
  | 56 => ⟨S1568x100000, .f32⟩
  | 57 => ⟨S_, .f32⟩
  | 58 => ⟨S1568, .f32⟩
  | 59 => ⟨S2x784, .f32⟩
  | 60 => ⟨S_, .f32⟩
  | 61 => ⟨S2, .f32⟩
  | 62 => ⟨S2x28x28, .f32⟩
  | 63 => ⟨S_, .f32⟩
  | 64 => ⟨S_, .f32⟩
  | 65 => ⟨S_, .f32⟩
  | 66 => ⟨S224, .f32⟩
  | 67 => ⟨S_, .f32⟩
  | 68 => ⟨S224, .f32⟩
  | 69 => ⟨S224, .f32⟩
  | 70 => ⟨S_, .f32⟩
  | 71 => ⟨S224, .f32⟩
  | 72 => ⟨S224, .f32⟩
  | 73 => ⟨S_, .f32⟩
  | 74 => ⟨S224, .f32⟩
  | 75 => ⟨S224, .f32⟩
  | 76 => ⟨S_, .f32⟩
  | 77 => ⟨S224, .f32⟩
  | 78 => ⟨S224, .f32⟩
  | 79 => ⟨S28, .f32⟩
  | 80 => ⟨S1x224, .f32⟩
  | 81 => ⟨S28x1, .f32⟩
  | 82 => ⟨S28x224, .f32⟩
  | 83 => ⟨S28x224, .f32⟩
  | 84 => ⟨S28x224, .f32⟩
  | 85 => ⟨S28x224, .f32⟩
  | 86 => ⟨S_, .f32⟩
  | 87 => ⟨S28x224, .f32⟩
  | 88 => ⟨S28x224, .f32⟩
  | 89 => ⟨S28x224, .f32⟩
  | 90 => ⟨S_, .f32⟩
  | 91 => ⟨S28x224, .f32⟩
  | 92 => ⟨S28x224, .f32⟩
  | 93 => ⟨S_, .f32⟩
  | 94 => ⟨S28x224, .f32⟩
  | 95 => ⟨S28x224, .f32⟩
  | 96 => ⟨S_, .f32⟩
  | 97 => ⟨S224, .f32⟩
  | 98 => ⟨S1x224, .f32⟩
  | 99 => ⟨S1x224, .f32⟩
  | 100 => ⟨S_, .f32⟩
  | 101 => ⟨S1x224, .f32⟩
  | 102 => ⟨S1x224, .i1⟩
  | 103 => ⟨S_, .f32⟩
  | 104 => ⟨S1x224, .f32⟩
  | 105 => ⟨S1x224, .i1⟩
  | 106 => ⟨S_, .f32⟩
  | 107 => ⟨S1x224, .f32⟩
  | 108 => ⟨S1x224, .f32⟩
  | 109 => ⟨S28x224, .f32⟩
  | 110 => ⟨S28x224, .f32⟩
  | 111 => ⟨S28x224, .i1⟩
  | 112 => ⟨S_, .f32⟩
  | 113 => ⟨S28x224, .f32⟩
  | 114 => ⟨S28x224, .f32⟩
  | 115 => ⟨S_, .f32⟩
  | 116 => ⟨S224, .f32⟩
  | 117 => ⟨S224, .i1⟩
  | 118 => ⟨S_, .f32⟩
  | 119 => ⟨S224, .f32⟩
  | 120 => ⟨S224, .i1⟩
  | 121 => ⟨S224, .i1⟩
  | 122 => ⟨S1x224, .i1⟩
  | 123 => ⟨S28x224, .i1⟩
  | 124 => ⟨S_, .f32⟩
  | 125 => ⟨S28x224, .f32⟩
  | 126 => ⟨S28x224, .f32⟩
  | 127 => ⟨S_, .f32⟩
  | _ => ⟨S2x512x28x28, .f32⟩

abbrev hbmTy0_3 (i : Nat) : BufTy := match i % 128 with
  | 0 => ⟨S_, .f32⟩
  | 1 => ⟨S_, .f32⟩
  | 2 => ⟨S224, .f32⟩
  | 3 => ⟨S_, .f32⟩
  | 4 => ⟨S224, .f32⟩
  | 5 => ⟨S224, .f32⟩
  | 6 => ⟨S_, .f32⟩
  | 7 => ⟨S224, .f32⟩
  | 8 => ⟨S224, .f32⟩
  | 9 => ⟨S_, .f32⟩
  | 10 => ⟨S224, .f32⟩
  | 11 => ⟨S224, .f32⟩
  | 12 => ⟨S_, .f32⟩
  | 13 => ⟨S224, .f32⟩
  | 14 => ⟨S224, .f32⟩
  | 15 => ⟨S28, .f32⟩
  | 16 => ⟨S1x224, .f32⟩
  | 17 => ⟨S28x1, .f32⟩
  | 18 => ⟨S28x224, .f32⟩
  | 19 => ⟨S28x224, .f32⟩
  | 20 => ⟨S28x224, .f32⟩
  | 21 => ⟨S28x224, .f32⟩
  | 22 => ⟨S_, .f32⟩
  | 23 => ⟨S28x224, .f32⟩
  | 24 => ⟨S28x224, .f32⟩
  | 25 => ⟨S28x224, .f32⟩
  | 26 => ⟨S_, .f32⟩
  | 27 => ⟨S28x224, .f32⟩
  | 28 => ⟨S28x224, .f32⟩
  | 29 => ⟨S_, .f32⟩
  | 30 => ⟨S28x224, .f32⟩
  | 31 => ⟨S28x224, .f32⟩
  | 32 => ⟨S_, .f32⟩
  | 33 => ⟨S224, .f32⟩
  | 34 => ⟨S1x224, .f32⟩
  | 35 => ⟨S1x224, .f32⟩
  | 36 => ⟨S_, .f32⟩
  | 37 => ⟨S1x224, .f32⟩
  | 38 => ⟨S1x224, .i1⟩
  | 39 => ⟨S_, .f32⟩
  | 40 => ⟨S1x224, .f32⟩
  | 41 => ⟨S1x224, .i1⟩
  | 42 => ⟨S_, .f32⟩
  | 43 => ⟨S1x224, .f32⟩
  | 44 => ⟨S1x224, .f32⟩
  | 45 => ⟨S28x224, .f32⟩
  | 46 => ⟨S28x224, .f32⟩
  | 47 => ⟨S28x224, .i1⟩
  | 48 => ⟨S_, .f32⟩
  | 49 => ⟨S28x224, .f32⟩
  | 50 => ⟨S28x224, .f32⟩
  | 51 => ⟨S_, .f32⟩
  | 52 => ⟨S224, .f32⟩
  | 53 => ⟨S224, .i1⟩
  | 54 => ⟨S_, .f32⟩
  | 55 => ⟨S224, .f32⟩
  | 56 => ⟨S224, .i1⟩
  | 57 => ⟨S224, .i1⟩
  | 58 => ⟨S1x224, .i1⟩
  | 59 => ⟨S28x224, .i1⟩
  | 60 => ⟨S_, .f32⟩
  | 61 => ⟨S28x224, .f32⟩
  | 62 => ⟨S28x224, .f32⟩
  | 63 => ⟨S224x2x28, .f32⟩
  | 64 => ⟨S224x2x224, .f32⟩
  | 65 => ⟨S2x224x224, .f32⟩
  | _ => ⟨S2x512x28x28, .f32⟩

abbrev hbmTy (i : Nat) : BufTy := match i / 128 with
  | 0 => hbmTy0_0 i
  | 1 => hbmTy0_1 i
  | 2 => hbmTy0_2 i
  | 3 => hbmTy0_3 i
  | _ => ⟨S2x512x28x28, .f32⟩

abbrev bufTy : (tb : Table) → Fin (tcTables nBuf tb) → BufTy
  | .hbm, ⟨i, _⟩ => hbmTy i
  | _, _ => ⟨S2x512x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_0 : Ref sig .tc := ⟨.hbm, 27, rfl⟩
abbrev main_call1_v0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_cst : Ref sig .tc := ⟨.hbm, 54, rfl⟩
abbrev main_cst_1 : Ref sig .tc := ⟨.hbm, 55, rfl⟩
abbrev main_v47 : Ref sig .tc := ⟨.hbm, 56, rfl⟩
abbrev main_v48 : Ref sig .tc := ⟨.hbm, 57, rfl⟩
abbrev main_cst_2 : Ref sig .tc := ⟨.hbm, 58, rfl⟩
abbrev main_v49 : Ref sig .tc := ⟨.hbm, 59, rfl⟩
abbrev main_v50 : Ref sig .tc := ⟨.hbm, 60, rfl⟩
abbrev main_cst_3 : Ref sig .tc := ⟨.hbm, 61, rfl⟩
abbrev main_v51 : Ref sig .tc := ⟨.hbm, 62, rfl⟩
abbrev main_v52 : Ref sig .tc := ⟨.hbm, 63, rfl⟩
abbrev main_cst_4 : Ref sig .tc := ⟨.hbm, 64, rfl⟩
abbrev main_v53 : Ref sig .tc := ⟨.hbm, 65, rfl⟩
abbrev main_v54 : Ref sig .tc := ⟨.hbm, 66, rfl⟩
abbrev main_cst_5 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_6 : Ref sig .tc := ⟨.hbm, 81, rfl⟩
abbrev main_v68 : Ref sig .tc := ⟨.hbm, 82, rfl⟩
abbrev main_v69 : Ref sig .tc := ⟨.hbm, 83, rfl⟩
abbrev main_cst_7 : Ref sig .tc := ⟨.hbm, 84, rfl⟩
abbrev main_v70 : Ref sig .tc := ⟨.hbm, 85, rfl⟩
abbrev main_v71 : Ref sig .tc := ⟨.hbm, 86, rfl⟩
abbrev main_cst_8 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_9 : Ref sig .tc := ⟨.hbm, 91, rfl⟩
abbrev main_v75 : Ref sig .tc := ⟨.hbm, 92, rfl⟩
abbrev main_v76 : Ref sig .tc := ⟨.hbm, 93, rfl⟩
abbrev main_cst_10 : Ref sig .tc := ⟨.hbm, 94, rfl⟩
abbrev main_v77 : Ref sig .tc := ⟨.hbm, 95, rfl⟩
abbrev main_v78 : Ref sig .tc := ⟨.hbm, 96, rfl⟩
abbrev main_cst_11 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_12 : Ref sig .tc := ⟨.hbm, 103, rfl⟩
abbrev main_v84 : Ref sig .tc := ⟨.hbm, 104, rfl⟩
abbrev main_v85 : Ref sig .tc := ⟨.hbm, 105, rfl⟩
abbrev main_cst_13 : Ref sig .tc := ⟨.hbm, 106, rfl⟩
abbrev main_v86 : Ref sig .tc := ⟨.hbm, 107, rfl⟩
abbrev main_v87 : Ref sig .tc := ⟨.hbm, 108, rfl⟩
abbrev main_cst_14 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_15 : Ref sig .tc := ⟨.hbm, 115, rfl⟩
abbrev main_v93 : Ref sig .tc := ⟨.hbm, 116, rfl⟩
abbrev main_v94 : Ref sig .tc := ⟨.hbm, 117, rfl⟩
abbrev main_cst_16 : Ref sig .tc := ⟨.hbm, 118, rfl⟩
abbrev main_cst_17 : Ref sig .tc := ⟨.hbm, 119, rfl⟩
abbrev main_v95 : Ref sig .tc := ⟨.hbm, 120, rfl⟩
abbrev main_v96 : Ref sig .tc := ⟨.hbm, 121, rfl⟩
abbrev main_cst_18 : Ref sig .tc := ⟨.hbm, 122, rfl⟩
abbrev main_v97 : Ref sig .tc := ⟨.hbm, 123, rfl⟩
abbrev main_v98 : Ref sig .tc := ⟨.hbm, 124, rfl⟩
abbrev main_cst_19 : Ref sig .tc := ⟨.hbm, 125, rfl⟩
abbrev main_v99 : Ref sig .tc := ⟨.hbm, 126, rfl⟩
abbrev main_v100 : Ref sig .tc := ⟨.hbm, 127, rfl⟩
abbrev main_cst_20 : Ref sig .tc := ⟨.hbm, 128, rfl⟩
abbrev main_v101 : Ref sig .tc := ⟨.hbm, 129, rfl⟩
abbrev main_v102 : Ref sig .tc := ⟨.hbm, 130, rfl⟩
abbrev main_cst_21 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_cst_22 : Ref sig .tc := ⟨.hbm, 145, rfl⟩
abbrev main_v116 : Ref sig .tc := ⟨.hbm, 146, rfl⟩
abbrev main_v117 : Ref sig .tc := ⟨.hbm, 147, rfl⟩
abbrev main_cst_23 : Ref sig .tc := ⟨.hbm, 148, rfl⟩
abbrev main_v118 : Ref sig .tc := ⟨.hbm, 149, rfl⟩
abbrev main_v119 : Ref sig .tc := ⟨.hbm, 150, rfl⟩
abbrev main_cst_24 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_cst_25 : Ref sig .tc := ⟨.hbm, 155, rfl⟩
abbrev main_v123 : Ref sig .tc := ⟨.hbm, 156, rfl⟩
abbrev main_v124 : Ref sig .tc := ⟨.hbm, 157, rfl⟩
abbrev main_cst_26 : Ref sig .tc := ⟨.hbm, 158, rfl⟩
abbrev main_v125 : Ref sig .tc := ⟨.hbm, 159, rfl⟩
abbrev main_v126 : Ref sig .tc := ⟨.hbm, 160, rfl⟩
abbrev main_cst_27 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_cst_28 : Ref sig .tc := ⟨.hbm, 167, rfl⟩
abbrev main_v132 : Ref sig .tc := ⟨.hbm, 168, rfl⟩
abbrev main_v133 : Ref sig .tc := ⟨.hbm, 169, rfl⟩
abbrev main_cst_29 : Ref sig .tc := ⟨.hbm, 170, rfl⟩
abbrev main_v134 : Ref sig .tc := ⟨.hbm, 171, rfl⟩
abbrev main_v135 : Ref sig .tc := ⟨.hbm, 172, rfl⟩
abbrev main_cst_30 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_cst_31 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_c_32 : Ref sig .tc := ⟨.hbm, 192, rfl⟩
abbrev main_v153 : Ref sig .tc := ⟨.hbm, 193, rfl⟩
abbrev main_v154 : Ref sig .tc := ⟨.hbm, 194, rfl⟩
abbrev main_c_33 : Ref sig .tc := ⟨.hbm, 195, rfl⟩
abbrev main_v155 : Ref sig .tc := ⟨.hbm, 196, rfl⟩
abbrev main_v156 : Ref sig .tc := ⟨.hbm, 197, rfl⟩
abbrev main_c_34 : Ref sig .tc := ⟨.hbm, 198, rfl⟩
abbrev main_v157 : Ref sig .tc := ⟨.hbm, 199, rfl⟩
abbrev main_v158 : Ref sig .tc := ⟨.hbm, 200, rfl⟩
abbrev main_c_35 : Ref sig .tc := ⟨.hbm, 201, rfl⟩
abbrev main_v159 : Ref sig .tc := ⟨.hbm, 202, rfl⟩
abbrev main_v160 : Ref sig .tc := ⟨.hbm, 203, rfl⟩
abbrev main_c_36 : Ref sig .tc := ⟨.hbm, 204, rfl⟩
abbrev main_v161 : Ref sig .tc := ⟨.hbm, 205, rfl⟩
abbrev main_v162 : Ref sig .tc := ⟨.hbm, 206, rfl⟩
abbrev main_c_37 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_cst_38 : Ref sig .tc := ⟨.hbm, 215, rfl⟩
abbrev main_v170 : Ref sig .tc := ⟨.hbm, 216, rfl⟩
abbrev main_v171 : Ref sig .tc := ⟨.hbm, 217, rfl⟩
abbrev main_cst_39 : Ref sig .tc := ⟨.hbm, 218, rfl⟩
abbrev main_call2_v0 : Ref sig .tc := ⟨.hbm, 219, rfl⟩
abbrev main_call2_v1 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_c_40 : Ref sig .tc := ⟨.hbm, 224, rfl⟩
abbrev main_v175 : Ref sig .tc := ⟨.hbm, 225, rfl⟩
abbrev main_v176 : Ref sig .tc := ⟨.hbm, 226, rfl⟩
abbrev main_c_41 : Ref sig .tc := ⟨.hbm, 227, rfl⟩
abbrev main_v177 : Ref sig .tc := ⟨.hbm, 228, rfl⟩
abbrev main_v178 : Ref sig .tc := ⟨.hbm, 229, rfl⟩
abbrev main_c_42 : Ref sig .tc := ⟨.hbm, 230, rfl⟩
abbrev main_v179 : Ref sig .tc := ⟨.hbm, 231, rfl⟩
abbrev main_v180 : Ref sig .tc := ⟨.hbm, 232, rfl⟩
abbrev main_c_43 : Ref sig .tc := ⟨.hbm, 233, rfl⟩
abbrev main_v181 : Ref sig .tc := ⟨.hbm, 234, rfl⟩
abbrev main_v182 : Ref sig .tc := ⟨.hbm, 235, rfl⟩
abbrev main_c_44 : Ref sig .tc := ⟨.hbm, 236, rfl⟩
abbrev main_v183 : Ref sig .tc := ⟨.hbm, 237, rfl⟩
abbrev main_v184 : Ref sig .tc := ⟨.hbm, 238, rfl⟩
abbrev main_c_45 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_cst_46 : Ref sig .tc := ⟨.hbm, 247, rfl⟩
abbrev main_v192 : Ref sig .tc := ⟨.hbm, 248, rfl⟩
abbrev main_v193 : Ref sig .tc := ⟨.hbm, 249, rfl⟩
abbrev main_cst_47 : Ref sig .tc := ⟨.hbm, 250, rfl⟩
abbrev main_call3_v0 : Ref sig .tc := ⟨.hbm, 251, rfl⟩
abbrev main_call3_v1 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_c_48 : Ref sig .tc := ⟨.hbm, 264, rfl⟩
abbrev main_v205 : Ref sig .tc := ⟨.hbm, 265, rfl⟩
abbrev main_v206 : Ref sig .tc := ⟨.hbm, 266, rfl⟩
abbrev main_c_49 : Ref sig .tc := ⟨.hbm, 267, rfl⟩
abbrev main_v207 : Ref sig .tc := ⟨.hbm, 268, rfl⟩
abbrev main_v208 : Ref sig .tc := ⟨.hbm, 269, rfl⟩
abbrev main_c_50 : Ref sig .tc := ⟨.hbm, 270, rfl⟩
abbrev main_v209 : Ref sig .tc := ⟨.hbm, 271, rfl⟩
abbrev main_v210 : Ref sig .tc := ⟨.hbm, 272, rfl⟩
abbrev main_c_51 : Ref sig .tc := ⟨.hbm, 273, rfl⟩
abbrev main_v211 : Ref sig .tc := ⟨.hbm, 274, rfl⟩
abbrev main_v212 : Ref sig .tc := ⟨.hbm, 275, rfl⟩
abbrev main_c_52 : Ref sig .tc := ⟨.hbm, 276, rfl⟩
abbrev main_v213 : Ref sig .tc := ⟨.hbm, 277, rfl⟩
abbrev main_v214 : Ref sig .tc := ⟨.hbm, 278, rfl⟩
abbrev main_c_53 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_cst_54 : Ref sig .tc := ⟨.hbm, 287, rfl⟩
abbrev main_v222 : Ref sig .tc := ⟨.hbm, 288, rfl⟩
abbrev main_v223 : Ref sig .tc := ⟨.hbm, 289, rfl⟩
abbrev main_cst_55 : Ref sig .tc := ⟨.hbm, 290, rfl⟩
abbrev main_call4_v0 : Ref sig .tc := ⟨.hbm, 291, rfl⟩
abbrev main_call4_v1 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_cst_56 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_cst_57 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_cst_58 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_cst_59 : Ref sig .tc := ⟨.hbm, 313, rfl⟩
abbrev main_v241 : Ref sig .tc := ⟨.hbm, 314, rfl⟩
abbrev main_v242 : Ref sig .tc := ⟨.hbm, 315, rfl⟩
abbrev main_cst_60 : Ref sig .tc := ⟨.hbm, 316, rfl⟩
abbrev main_v243 : Ref sig .tc := ⟨.hbm, 317, rfl⟩
abbrev main_v244 : Ref sig .tc := ⟨.hbm, 318, rfl⟩
abbrev main_cst_61 : Ref sig .tc := ⟨.hbm, 319, rfl⟩
abbrev main_cst_62 : Ref sig .tc := ⟨.hbm, 320, rfl⟩
abbrev main_v245 : Ref sig .tc := ⟨.hbm, 321, rfl⟩
abbrev main_v246 : Ref sig .tc := ⟨.hbm, 322, rfl⟩
abbrev main_cst_63 : Ref sig .tc := ⟨.hbm, 323, rfl⟩
abbrev main_v247 : Ref sig .tc := ⟨.hbm, 324, rfl⟩
abbrev main_v248 : Ref sig .tc := ⟨.hbm, 325, rfl⟩
abbrev main_cst_64 : Ref sig .tc := ⟨.hbm, 326, rfl⟩
abbrev main_v249 : Ref sig .tc := ⟨.hbm, 327, rfl⟩
abbrev main_v250 : Ref sig .tc := ⟨.hbm, 328, rfl⟩
abbrev main_cst_65 : Ref sig .tc := ⟨.hbm, 329, rfl⟩
abbrev main_v251 : Ref sig .tc := ⟨.hbm, 330, rfl⟩
abbrev main_v252 : Ref sig .tc := ⟨.hbm, 331, rfl⟩
abbrev main_cst_66 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_v256 : Ref sig .tc := ⟨.hbm, 336, rfl⟩
abbrev main_v257 : Ref sig .tc := ⟨.hbm, 337, rfl⟩
abbrev main_v258 : Ref sig .tc := ⟨.hbm, 338, rfl⟩
abbrev main_v259 : Ref sig .tc := ⟨.hbm, 339, rfl⟩
abbrev main_v260 : Ref sig .tc := ⟨.hbm, 340, rfl⟩
abbrev main_v261 : Ref sig .tc := ⟨.hbm, 341, rfl⟩
abbrev main_v262 : Ref sig .tc := ⟨.hbm, 342, rfl⟩
abbrev main_v263 : Ref sig .tc := ⟨.hbm, 343, rfl⟩
abbrev main_v264 : Ref sig .tc := ⟨.hbm, 344, rfl⟩
abbrev main_v265 : Ref sig .tc := ⟨.hbm, 345, rfl⟩
abbrev main_cst_67 : Ref sig .tc := ⟨.hbm, 346, rfl⟩
abbrev main_v266 : Ref sig .tc := ⟨.hbm, 347, rfl⟩
abbrev main_v267 : Ref sig .tc := ⟨.hbm, 348, rfl⟩
abbrev main_cst_68 : Ref sig .tc := ⟨.hbm, 349, rfl⟩
abbrev main_v268 : Ref sig .tc := ⟨.hbm, 350, rfl⟩
abbrev main_v269 : Ref sig .tc := ⟨.hbm, 351, rfl⟩
abbrev main_cst_69 : Ref sig .tc := ⟨.hbm, 352, rfl⟩
abbrev main_v270 : Ref sig .tc := ⟨.hbm, 353, rfl⟩
abbrev main_v271 : Ref sig .tc := ⟨.hbm, 354, rfl⟩
abbrev main_v272 : Ref sig .tc := ⟨.hbm, 355, rfl⟩
abbrev main_cst_70 : Ref sig .tc := ⟨.hbm, 356, rfl⟩
abbrev main_v273 : Ref sig .tc := ⟨.hbm, 357, rfl⟩
abbrev main_v274 : Ref sig .tc := ⟨.hbm, 358, rfl⟩
abbrev main_cst_71 : Ref sig .tc := ⟨.hbm, 359, rfl⟩
abbrev main_v275 : Ref sig .tc := ⟨.hbm, 360, rfl⟩
abbrev main_v276 : Ref sig .tc := ⟨.hbm, 361, rfl⟩
abbrev main_cst_72 : Ref sig .tc := ⟨.hbm, 362, rfl⟩
abbrev main_v277 : Ref sig .tc := ⟨.hbm, 363, rfl⟩
abbrev main_v278 : Ref sig .tc := ⟨.hbm, 364, rfl⟩
abbrev main_v279 : Ref sig .tc := ⟨.hbm, 365, rfl⟩
abbrev main_v280 : Ref sig .tc := ⟨.hbm, 366, rfl⟩
abbrev main_v281 : Ref sig .tc := ⟨.hbm, 367, rfl⟩
abbrev main_cst_73 : Ref sig .tc := ⟨.hbm, 368, rfl⟩
abbrev main_v282 : Ref sig .tc := ⟨.hbm, 369, rfl⟩
abbrev main_v283 : Ref sig .tc := ⟨.hbm, 370, rfl⟩
abbrev main_cst_74 : Ref sig .tc := ⟨.hbm, 371, rfl⟩
abbrev main_v284 : Ref sig .tc := ⟨.hbm, 372, rfl⟩
abbrev main_v285 : Ref sig .tc := ⟨.hbm, 373, rfl⟩
abbrev main_cst_75 : Ref sig .tc := ⟨.hbm, 374, rfl⟩
abbrev main_v286 : Ref sig .tc := ⟨.hbm, 375, rfl⟩
abbrev main_v287 : Ref sig .tc := ⟨.hbm, 376, rfl⟩
abbrev main_v288 : Ref sig .tc := ⟨.hbm, 377, rfl⟩
abbrev main_v289 : Ref sig .tc := ⟨.hbm, 378, rfl⟩
abbrev main_v290 : Ref sig .tc := ⟨.hbm, 379, rfl⟩
abbrev main_cst_76 : Ref sig .tc := ⟨.hbm, 380, rfl⟩
abbrev main_v291 : Ref sig .tc := ⟨.hbm, 381, rfl⟩
abbrev main_v292 : Ref sig .tc := ⟨.hbm, 382, rfl⟩
abbrev main_cst_77 : Ref sig .tc := ⟨.hbm, 383, rfl⟩
abbrev main_cst_78 : Ref sig .tc := ⟨.hbm, 384, rfl⟩
abbrev main_v293 : Ref sig .tc := ⟨.hbm, 385, rfl⟩
abbrev main_v294 : Ref sig .tc := ⟨.hbm, 386, rfl⟩
abbrev main_cst_79 : Ref sig .tc := ⟨.hbm, 387, rfl⟩
abbrev main_v295 : Ref sig .tc := ⟨.hbm, 388, rfl⟩
abbrev main_v296 : Ref sig .tc := ⟨.hbm, 389, rfl⟩
abbrev main_cst_80 : Ref sig .tc := ⟨.hbm, 390, rfl⟩
abbrev main_v297 : Ref sig .tc := ⟨.hbm, 391, rfl⟩
abbrev main_v298 : Ref sig .tc := ⟨.hbm, 392, rfl⟩
abbrev main_cst_81 : Ref sig .tc := ⟨.hbm, 393, rfl⟩
abbrev main_v299 : Ref sig .tc := ⟨.hbm, 394, rfl⟩
abbrev main_v300 : Ref sig .tc := ⟨.hbm, 395, rfl⟩
abbrev main_cst_82 : Ref sig .tc := ⟨.hbm, 396, rfl⟩
abbrev main_v301 : Ref sig .tc := ⟨.hbm, 397, rfl⟩
abbrev main_v302 : Ref sig .tc := ⟨.hbm, 398, rfl⟩
abbrev main_v303 : Ref sig .tc := ⟨.hbm, 399, rfl⟩
abbrev main_v304 : Ref sig .tc := ⟨.hbm, 400, rfl⟩
abbrev main_v305 : Ref sig .tc := ⟨.hbm, 401, rfl⟩
abbrev main_v306 : Ref sig .tc := ⟨.hbm, 402, rfl⟩
abbrev main_v307 : Ref sig .tc := ⟨.hbm, 403, rfl⟩
abbrev main_v308 : Ref sig .tc := ⟨.hbm, 404, rfl⟩
abbrev main_v309 : Ref sig .tc := ⟨.hbm, 405, rfl⟩
abbrev main_v310 : Ref sig .tc := ⟨.hbm, 406, rfl⟩
abbrev main_v311 : Ref sig .tc := ⟨.hbm, 407, rfl⟩
abbrev main_v312 : Ref sig .tc := ⟨.hbm, 408, rfl⟩
abbrev main_v313 : Ref sig .tc := ⟨.hbm, 409, rfl⟩
abbrev main_cst_83 : Ref sig .tc := ⟨.hbm, 410, rfl⟩
abbrev main_v314 : Ref sig .tc := ⟨.hbm, 411, rfl⟩
abbrev main_v315 : Ref sig .tc := ⟨.hbm, 412, rfl⟩
abbrev main_cst_84 : Ref sig .tc := ⟨.hbm, 413, rfl⟩
abbrev main_v316 : Ref sig .tc := ⟨.hbm, 414, rfl⟩
abbrev main_v317 : Ref sig .tc := ⟨.hbm, 415, rfl⟩
abbrev main_cst_85 : Ref sig .tc := ⟨.hbm, 416, rfl⟩
abbrev main_v318 : Ref sig .tc := ⟨.hbm, 417, rfl⟩
abbrev main_v319 : Ref sig .tc := ⟨.hbm, 418, rfl⟩
abbrev main_v320 : Ref sig .tc := ⟨.hbm, 419, rfl⟩
abbrev main_cst_86 : Ref sig .tc := ⟨.hbm, 420, rfl⟩
abbrev main_v321 : Ref sig .tc := ⟨.hbm, 421, rfl⟩
abbrev main_v322 : Ref sig .tc := ⟨.hbm, 422, rfl⟩
abbrev main_cst_87 : Ref sig .tc := ⟨.hbm, 423, rfl⟩
abbrev main_v323 : Ref sig .tc := ⟨.hbm, 424, rfl⟩
abbrev main_v324 : Ref sig .tc := ⟨.hbm, 425, rfl⟩
abbrev main_cst_88 : Ref sig .tc := ⟨.hbm, 426, rfl⟩
abbrev main_v325 : Ref sig .tc := ⟨.hbm, 427, rfl⟩
abbrev main_v326 : Ref sig .tc := ⟨.hbm, 428, rfl⟩
abbrev main_v327 : Ref sig .tc := ⟨.hbm, 429, rfl⟩
abbrev main_v328 : Ref sig .tc := ⟨.hbm, 430, rfl⟩
abbrev main_v329 : Ref sig .tc := ⟨.hbm, 431, rfl⟩
abbrev main_cst_89 : Ref sig .tc := ⟨.hbm, 432, rfl⟩
abbrev main_v330 : Ref sig .tc := ⟨.hbm, 433, rfl⟩
abbrev main_v331 : Ref sig .tc := ⟨.hbm, 434, rfl⟩
abbrev main_cst_90 : Ref sig .tc := ⟨.hbm, 435, rfl⟩
abbrev main_v332 : Ref sig .tc := ⟨.hbm, 436, rfl⟩
abbrev main_v333 : Ref sig .tc := ⟨.hbm, 437, rfl⟩
abbrev main_cst_91 : Ref sig .tc := ⟨.hbm, 438, rfl⟩
abbrev main_v334 : Ref sig .tc := ⟨.hbm, 439, rfl⟩
abbrev main_v335 : Ref sig .tc := ⟨.hbm, 440, rfl⟩
abbrev main_v336 : Ref sig .tc := ⟨.hbm, 441, rfl⟩
abbrev main_v337 : Ref sig .tc := ⟨.hbm, 442, rfl⟩
abbrev main_v338 : Ref sig .tc := ⟨.hbm, 443, rfl⟩
abbrev main_cst_92 : Ref sig .tc := ⟨.hbm, 444, rfl⟩
abbrev main_v339 : Ref sig .tc := ⟨.hbm, 445, rfl⟩
abbrev main_v340 : Ref sig .tc := ⟨.hbm, 446, rfl⟩
abbrev main_v341 : Ref sig .tc := ⟨.hbm, 447, rfl⟩
abbrev main_v342 : Ref sig .tc := ⟨.hbm, 448, rfl⟩
abbrev main_v343 : Ref sig .tc := ⟨.hbm, 449, rfl⟩

abbrev nD : Nat := 1
abbrev τ : Topo := Topo.v7x

variable {F : FTy → Type} [FloatOps F]
-- ==== Proof.IdealBody.lean ====
/- The kernel's two bodies over the extended reals: what a grid point of the first call leaves in its scratch buffers and its
   result, by the point being the first, a middle or the last one, and what the second call's body stores. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.ReadBack
public import Idealize.ShloMosaic.Lib.Tactic

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the body's stores leave, as plain functions of the operands' blocks -/

abbrev qr00 : Rect S128x1568 := Rect.unit (s := S128x1568) ![0, 0] S64x784.size inb_S128x1568_S64x784_0_0
abbrev qr10 : Rect S128x1568 := Rect.unit (s := S128x1568) ![64, 0] S64x784.size inb_S128x1568_S64x784_64_0
abbrev qr01 : Rect S128x1568 := Rect.unit (s := S128x1568) ![0, 784] S64x784.size inb_S128x1568_S64x784_0_784
abbrev qr11 : Rect S128x1568 := Rect.unit (s := S128x1568) ![64, 784] S64x784.size inb_S128x1568_S64x784_64_784
abbrev sr0 : Rect S1x1568 := Rect.unit (s := S1x1568) ![0, 0] S1x784.size inb_S1x1568_S1x784_0_0
abbrev sr1 : Rect S1x1568 := Rect.unit (s := S1x1568) ![0, 784] S1x784.size inb_S1x1568_S1x784_0_784
abbrev wr : Rect S1x1568 := Rect.unit (s := S1x1568) ![0, 0] S1x1568.size inb_S1x1568_S1x1568_0_0

/-- The embedding's four stores into the query scratch, newest first. -/
abbrev qtPieces (x0 : Vec F S128x8x896 .f32) (x1 : Vec F S128x16x256 .f32) (x2 : Vec F S896x896 .f32) (x3 : Vec F S256x896 .f32) :
    List (View.Piece (Elt F) S128x1568 .fp8e4m3) :=
  [⟨qr11, k0_pay1 (k0_pay15 x1 x3)⟩, ⟨qr01, k0_pay14 x0 x2⟩, ⟨qr10, k0_pay13 x1 x3⟩, ⟨qr00, k0_pay12 x0 x2⟩]

/-- The query scratch after the embedding. -/
def qtOf (x0 : Vec F S128x8x896 .f32) (x1 : Vec F S128x16x256 .f32) (x2 : Vec F S896x896 .f32) (x3 : Vec F S256x896 .f32) :
    Vec F S128x1568 .fp8e4m3 := View.canon (qtPieces x0 x1 x2 x3)

/-- The embedding's two stores into the scratch of squared norms, newest first. -/
abbrev qsqPieces (x0 : Vec F S128x8x896 .f32) (x1 : Vec F S128x16x256 .f32) (x2 : Vec F S896x896 .f32) (x3 : Vec F S256x896 .f32) :
    List (View.Piece (Elt F) S1x1568 .f32) :=
  [⟨sr1, k0_pay5 (k0_pay10 x0 x2) (k0_pay11 x1 x3)⟩, ⟨sr0, k0_pay4 (k0_pay10 x0 x2) (k0_pay11 x1 x3)⟩]

/-- The scratch of squared norms after the embedding. -/
def qsqOf (x0 : Vec F S128x8x896 .f32) (x1 : Vec F S128x16x256 .f32) (x2 : Vec F S896x896 .f32) (x3 : Vec F S256x896 .f32) :
    Vec F S1x1568 .f32 := View.canon (qsqPieces x0 x1 x2 x3)

theorem qt_cover (x0 : Vec F S128x8x896 .f32) (x1 : Vec F S128x16x256 .f32) (x2 : Vec F S896x896 .f32) (x3 : Vec F S256x896 .f32)
    (y : S128x1568.Idx) : ∃ pc ∈ qtPieces x0 x1 x2 x3, y ∈ pc.1.set :=
  View.cover_of_tiled (qtPieces x0 x1 x2 x3) S64x784.size (by rfl) y

theorem qsq_cover (x0 : Vec F S128x8x896 .f32) (x1 : Vec F S128x16x256 .f32) (x2 : Vec F S896x896 .f32) (x3 : Vec F S256x896 .f32)
    (y : S1x1568.Idx) : ∃ pc ∈ qsqPieces x0 x1 x2 x3, y ∈ pc.1.set :=
  View.cover_of_tiled (qsqPieces x0 x1 x2 x3) S1x784.size (by rfl) y

theorem w_cover (p : Vec F S1x1568 .f32) (y : S1x1568.Idx) :
    ∃ pc ∈ ([⟨wr, p⟩] : List (View.Piece (Elt F) S1x1568 .f32)), y ∈ pc.1.set :=
  View.cover_of_tiled [⟨wr, p⟩] S1x1568.size (by rfl) y

/-! ## The conditions of the body's branches, by the grid coordinate -/

/-- The condition of the first two branches: the first point. -/
abbrev isFirst (i : grid0.Coords) : Prop :=
  (Scalar.cmpi .ne (Scalar.extui (Scalar.cmpi .eq (BitVec.ofNat 32 (i 0).val) 0#32)) 0#32) = 1#1
/-- The condition of the third branch: any later point. -/
abbrev isLater (i : grid0.Coords) : Prop :=
  (Scalar.cmpi .ne (Scalar.extui (Scalar.cmpi .sgt (BitVec.ofNat 32 (i 0).val) 0#32)) 0#32) = 1#1
/-- The condition of the last branch: the last point. -/
abbrev isLast (i : grid0.Coords) : Prop := k0_cond4 i = 1#1

theorem isFirst_iff : ∀ t : Fin cfg0.N, isFirst (grid0.coords t) ↔ t.val = 0 :=
  (by decide +kernel : ∀ t : Fin grid0.N, isFirst (grid0.coords t) ↔ t.val = 0)
theorem isLater_iff : ∀ t : Fin cfg0.N, isLater (grid0.coords t) ↔ 1 ≤ t.val :=
  (by decide +kernel : ∀ t : Fin grid0.N, isLater (grid0.coords t) ↔ 1 ≤ t.val)
theorem isLast_iff : ∀ t : Fin cfg0.N, isLast (grid0.coords t) ↔ t.val = 9 :=
  (by decide +kernel : ∀ t : Fin grid0.N, isLast (grid0.coords t) ↔ t.val = 9)

/-! ## Loads through a whole buffer -/

/-- A load of the whole buffer reads its contents. -/
theorem load_whole {s : Shape} {e : EltTy} {sp : Space} (v : View sig .tc sp s e) (f : v.ty.Contents (Elt F))
    {off : Fin s.rank → Nat} (h : off = fun _ => 0) (inb : ∀ a, off a + s.size a ≤ s.size a) :
    View.readAt (Elt F) v (Rect.unit off s.size inb).toLoadRect f = v.read (Elt F) f :=
  (View.readAt_eq_ld v f _).trans (View.ld_unit_zero h inb _)

/-- A load of a whole memref holding `X` reads `X`. -/
theorem load_unread {s : Shape} {e : EltTy} {sp : Space} {M : Memref sig .tc sp s e} (hM : M.IsWhole) (X : s.Idx → Elt F e)
    {off : Fin s.rank → Nat} (h : off = fun _ => 0) (inb : ∀ a, off a + s.size a ≤ s.size a) :
    View.readAt (Elt F) M.view (Rect.unit off s.size inb).toLoadRect (hM.unread X) = X :=
  (load_whole M.view _ h inb).trans (hM.read_unread X)

theorem z2 : (![0, 0] : Fin 2 → Nat) = fun _ => 0 := by decide
theorem z3 : (![0, 0, 0] : Fin 3 → Nat) = fun _ => 0 := by decide

/-! ## The body's triple, case by case -/

set_option maxHeartbeats 2000000 in
/-- At the first point the body leaves the query scratch, the squared norms and the first tile's minima. -/
theorem sound_first (c : Dev nD) (E : Set ℕ) (i : grid0.Coords) (arg1 : Memref sig .tc .vmem S128x8x896 .f32) (harg1 : arg1.IsWhole) (arg2 : Memref sig .tc .vmem S128x16x256 .f32) (harg2 : arg2.IsWhole) (arg3 : Memref sig .tc .vmem S896x896 .f32) (harg3 : arg3.IsWhole) (arg4 : Memref sig .tc .vmem S256x896 .f32) (harg4 : arg4.IsWhole) (arg5 : Memref sig .tc .vmem S10000x128 .f32) (harg5 : arg5.IsWhole) (arg6 : Memref sig .tc .vmem S1x1568 .f32) (harg6 : arg6.IsWhole) (arg7 : Memref sig .tc .vmem S128x1568 .fp8e4m3) (harg7 : arg7.IsWhole) (arg8 : Memref sig .tc .vmem S1x1568 .f32) (harg8 : arg8.IsWhole) (arg9 : Memref sig .tc .vmem S1x1568 .f32) (harg9 : arg9.IsWhole)
    (h1 : isFirst i) (h2 : ¬ isLater i) (h3 : ¬ isLast i)
    (x0 : Vec F S128x8x896 .f32) (x1 : Vec F S128x16x256 .f32) (x2 : Vec F S896x896 .f32) (x3 : Vec F S256x896 .f32) (x4 : Vec F S10000x128 .f32) (xo : Vec F S1x1568 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo
            ∗ owns (c : Thread nD τ) arg7 fullShare (qtOf x0 x1 x2 x3) ∗ owns (c : Thread nD τ) arg8 fullShare (qsqOf x0 x1 x2 x3) ∗ owns (c : Thread nD τ) arg9 fullShare (k0_pay7 x4 (qtOf x0 x1 x2 x3))) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9) K := by
  simp only [cc0__body_eq_skeleton]; unfold cc0__body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact h1 | sl_exact h2 | sl_exact h3)
  have e0 := load_unread harg1 x0 z3 inb_S128x8x896_S128x8x896_0_0_0
  have e1 := load_unread harg2 x1 z3 inb_S128x16x256_S128x16x256_0_0_0
  have e2 := load_unread harg3 x2 z2 inb_S896x896_S896x896_0_0
  have e3 := load_unread harg4 x3 z2 inb_S256x896_S256x896_0_0
  have e4 := load_unread harg5 x4 z2 inb_S10000x128_S10000x128_0_0
  have eq : sound_first.sl.HS0_4 c arg1 harg1 arg2 harg2 arg3 harg3 arg4 harg4 x0 x1 x2 x3 = qtPieces x0 x1 x2 x3 := by
    unfold sound_first.sl.HS0_4 sound_first.sl.r_2
    rw [e0, e1, e2, e3]
  have er : sound_first.sl.r c arg1 harg1 arg3 harg3 x0 x2 = k0_pay10 x0 x2 := by
    unfold sound_first.sl.r; rw [e0, e2]
  have er1 : sound_first.sl.r_1 c arg2 harg2 arg4 harg4 x1 x3 = k0_pay11 x1 x3 := by
    unfold sound_first.sl.r_1; rw [e1, e3]
  have ev : sound_first.sl.v8 c arg1 harg1 arg2 harg2 arg3 harg3 arg4 harg4 arg7 x0 x1 x2 x3 = qtOf x0 x1 x2 x3 := by
    unfold sound_first.sl.v8
    rw [eq, View.readCov_eq_canon_ld _ _ _ (qt_cover x0 x1 x2 x3)]
    exact View.ld_unit_zero z2 inb_S128x1568_S128x1568_0_0 _
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [HS0]
  · iexists _; isplitr
    swap; · iexact HS0
    ipureintro
    rw [eq]
    exact View.read_writes_eq_canon _ _ _ (qt_cover x0 x1 x2 x3)
  isplitl [HS1]
  · iexists _; isplitr
    swap; · iexact HS1
    ipureintro
    rw [er, er1]
    exact View.read_writes_eq_canon _ _ _ (qsq_cover x0 x1 x2 x3)
  iexists _; isplitr
  swap; · iexact HS2
  ipureintro
  rw [ev]
  refine (View.read_writes_eq_canon _ _ _ (w_cover _)).trans ?_
  refine (View.canon_unit_zero z2 inb_S1x1568_S1x1568_0_0 _).trans ?_
  exact congrArg (k0_pay7 · _) e4

set_option maxHeartbeats 2000000 in
/-- At a point between the first and the last the body lowers the minima by its tile's. -/
theorem sound_middle (c : Dev nD) (E : Set ℕ) (i : grid0.Coords) (arg1 : Memref sig .tc .vmem S128x8x896 .f32) (harg1 : arg1.IsWhole) (arg2 : Memref sig .tc .vmem S128x16x256 .f32) (harg2 : arg2.IsWhole) (arg3 : Memref sig .tc .vmem S896x896 .f32) (harg3 : arg3.IsWhole) (arg4 : Memref sig .tc .vmem S256x896 .f32) (harg4 : arg4.IsWhole) (arg5 : Memref sig .tc .vmem S10000x128 .f32) (harg5 : arg5.IsWhole) (arg6 : Memref sig .tc .vmem S1x1568 .f32) (harg6 : arg6.IsWhole) (arg7 : Memref sig .tc .vmem S128x1568 .fp8e4m3) (harg7 : arg7.IsWhole) (arg8 : Memref sig .tc .vmem S1x1568 .f32) (harg8 : arg8.IsWhole) (arg9 : Memref sig .tc .vmem S1x1568 .f32) (harg9 : arg9.IsWhole)
    (h1 : ¬ isFirst i) (h2 : isLater i) (h3 : ¬ isLast i)
    (x0 : Vec F S128x8x896 .f32) (x1 : Vec F S128x16x256 .f32) (x2 : Vec F S896x896 .f32) (x3 : Vec F S256x896 .f32) (x4 : Vec F S10000x128 .f32) (xo : Vec F S1x1568 .f32) (q : Vec F S128x1568 .fp8e4m3) (s a : Vec F S1x1568 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo
        ∗ owns (c : Thread nD τ) arg7 fullShare q ∗ owns (c : Thread nD τ) arg8 fullShare s ∗ owns (c : Thread nD τ) arg9 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo
            ∗ owns (c : Thread nD τ) arg7 fullShare q ∗ owns (c : Thread nD τ) arg8 fullShare s ∗ owns (c : Thread nD τ) arg9 fullShare (k0_pay8 x4 q a)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1; obtain rfl := harg9.eq_unread hfs2
  sl_exec (disch := first | sl_exact h1 | sl_exact h2 | sl_exact h3)
  have e4 := load_unread harg5 x4 z2 inb_S10000x128_S10000x128_0_0
  have e7 := load_unread harg7 q z2 inb_S128x1568_S128x1568_0_0
  have e8 := load_unread harg8 s z2 inb_S1x1568_S1x1568_0_0
  have e9 := load_unread harg9 a z2 inb_S1x1568_S1x1568_0_0
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [HS0]
  · iexists _; isplitr; · ipureintro; exact harg7.read_unread _
    iexact HS0
  isplitl [HS1]
  · iexists _; isplitr; · ipureintro; exact harg8.read_unread _
    iexact HS1
  iexists _; isplitr
  swap; · iexact HS2
  ipureintro
  rw [e4, e7, e9]
  exact (View.read_writes_eq_canon _ _ _ (w_cover _)).trans (View.canon_unit_zero z2 inb_S1x1568_S1x1568_0_0 _)

set_option maxHeartbeats 2000000 in
/-- At the last point the body also stores the minima plus the squared norms. -/
theorem sound_last (c : Dev nD) (E : Set ℕ) (i : grid0.Coords) (arg1 : Memref sig .tc .vmem S128x8x896 .f32) (harg1 : arg1.IsWhole) (arg2 : Memref sig .tc .vmem S128x16x256 .f32) (harg2 : arg2.IsWhole) (arg3 : Memref sig .tc .vmem S896x896 .f32) (harg3 : arg3.IsWhole) (arg4 : Memref sig .tc .vmem S256x896 .f32) (harg4 : arg4.IsWhole) (arg5 : Memref sig .tc .vmem S10000x128 .f32) (harg5 : arg5.IsWhole) (arg6 : Memref sig .tc .vmem S1x1568 .f32) (harg6 : arg6.IsWhole) (arg7 : Memref sig .tc .vmem S128x1568 .fp8e4m3) (harg7 : arg7.IsWhole) (arg8 : Memref sig .tc .vmem S1x1568 .f32) (harg8 : arg8.IsWhole) (arg9 : Memref sig .tc .vmem S1x1568 .f32) (harg9 : arg9.IsWhole)
    (h1 : ¬ isFirst i) (h2 : isLater i) (h3 : isLast i)
    (x0 : Vec F S128x8x896 .f32) (x1 : Vec F S128x16x256 .f32) (x2 : Vec F S896x896 .f32) (x3 : Vec F S256x896 .f32) (x4 : Vec F S10000x128 .f32) (q : Vec F S128x1568 .fp8e4m3) (s a : Vec F S1x1568 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ owns (c : Thread nD τ) arg7 fullShare q ∗ owns (c : Thread nD τ) arg8 fullShare s ∗ owns (c : Thread nD τ) arg9 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay9 (k0_pay8 x4 q a) s)
            ∗ owns (c : Thread nD τ) arg7 fullShare q ∗ owns (c : Thread nD τ) arg8 fullShare s ∗ owns (c : Thread nD τ) arg9 fullShare (k0_pay8 x4 q a)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg8.eq_unread hfs1; obtain rfl := harg9.eq_unread hfs2
  sl_exec (disch := first | sl_exact h1 | sl_exact h2 | sl_exact h3)
  have e4 := load_unread harg5 x4 z2 inb_S10000x128_S10000x128_0_0
  have e7 := load_unread harg7 q z2 inb_S128x1568_S128x1568_0_0
  have e8 := load_unread harg8 s z2 inb_S1x1568_S1x1568_0_0
  have e9 := load_unread harg9 a z2 inb_S1x1568_S1x1568_0_0
  have eh : sound_last.sl.HS2_1 c arg5 harg5 arg7 harg7 arg9 harg9 x4 q a = [⟨wr, k0_pay8 x4 q a⟩] := by
    unfold sound_last.sl.HS2_1
    rw [e4, e7, e9]
  have ev : sound_last.sl.v23 c arg5 harg5 arg7 harg7 arg9 harg9 x4 q a = k0_pay8 x4 q a := by
    unfold sound_last.sl.v23
    rw [eh]
    exact View.readCov_cons_toLoadRect _ _ _ _
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [ev, e8]
    exact (View.read_writes_eq_canon _ _ _ (w_cover _)).trans (View.canon_unit_zero z2 inb_S1x1568_S1x1568_0_0 _)
  isplitl [HS0]
  · iexists _; isplitr; · ipureintro; exact harg7.read_unread _
    iexact HS0
  isplitl [HS1]
  · iexists _; isplitr; · ipureintro; exact harg8.read_unread _
    iexact HS1
  iexists _; isplitr
  swap; · iexact HS2
  ipureintro
  rw [eh]
  exact (View.read_writes_eq_canon _ _ _ (w_cover _)).trans (View.canon_unit_zero z2 inb_S1x1568_S1x1568_0_0 _)

end Cert.KernelIdeal.Run

end
-- ==== Proof.IdealRegion0.lean ====
/- The first call over the extended reals: its ten points run one after another, with the minima carried from point to point. -/
module

public import proofs.«01_k».proof.Proof.IdealBody
public import Idealize.ShloMosaic.Lib.Pipeline.RegionsLoop
public import Idealize.ShloMosaic.Lib.Pipeline.FrameSuffix

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0
variable (V : (c : Dev nD) → (b : Ref sig .tc) → Buf (Elt F) ((c : Thread nD τ).loc b))

/-! # Call 1: the pipeline's proof data and the body obligation, at the entry contents `V` -/

/-- Window `w`'s block at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
abbrev pt0 : Fin cfg0.N := ⟨0, lt_of_lt_of_eq (by decide) (show 10 = cfg0.N from N_0.symm)⟩

/-- The query scratch from the first point on. -/
def qt0 (c : Dev nD) : Vec F S128x1568 .fp8e4m3 := qtOf (blk0 V c 0 pt0) (blk0 V c 1 pt0) (blk0 V c 2 pt0) (blk0 V c 3 pt0)
/-- The squared norms from the first point on. -/
def qsq0 (c : Dev nD) : Vec F S1x1568 .f32 := qsqOf (blk0 V c 0 pt0) (blk0 V c 1 pt0) (blk0 V c 2 pt0) (blk0 V c 3 pt0)

/-- The running minima after point `n`: the first tile's, then the smaller of what there was and the tile's. -/
def acc0 (c : Dev nD) : (n : ℕ) → n < cfg0.N → Vec F S1x1568 .f32
  | 0, hn => k0_pay7 (blk0 V c 4 ⟨0, hn⟩) (qt0 V c)
  | n + 1, hn => k0_pay8 (blk0 V c 4 ⟨n + 1, hn⟩) (qt0 V c) (acc0 c n (Nat.lt_of_succ_lt hn))

/-- What call 1 leaves in its result after point `n`: minima plus squared norms. -/
def res0 (c : Dev nD) (n : ℕ) (hn : n < cfg0.N) : Vec F S1x1568 .f32 := k0_pay9 (acc0 V c n hn) (qsq0 V c)

/-- The three scratch buffers. -/
abbrev scM0 : Memref sig .tc .vmem S128x1568 .fp8e4m3 := Memref.whole cc0_scratch0
abbrev scM1 : Memref sig .tc .vmem S1x1568 .f32 := Memref.whole cc0_scratch1
abbrev scM2 : Memref sig .tc .vmem S1x1568 .f32 := Memref.whole cc0_scratch2

/-- The staging buffers of the other call, which call 1 leaves alone. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f))

/-- What a call may use besides its windows, the three scratch buffers told apart. -/
theorem scoped0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ rest0 c) ∗ (∃ r, prngReg c r)) := by
  unfold Pipeline.ΦA rest0; rw [scopedRest0_eq]; simp only [scM0, scM1, scM2, owns_whole]; try rfl

/-- The invariant before position `n`: at the start every scratch buffer at anything, afterwards at the contents above. -/
def Phi0 (c : Dev nD) : (n : ℕ) → n ≤ cfg0.N → sProp 𝕄
  | 0, _ => Pipeline.ΦA spec0 c
  | n + 1, hn => iprop(iprop(owns (c : Thread nD τ) scM0 fullShare (qt0 V c) ∗ owns (c : Thread nD τ) scM1 fullShare (qsq0 V c) ∗ owns (c : Thread nD τ) scM2 fullShare (acc0 V c n hn) ∗ rest0 c) ∗ (∃ r, prngReg c r))

/-- The proof data of call 1's pipeline. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => res0 V c t.val t.isLt
  Φ t := Phi0 V c t.val (Nat.le_of_lt_succ t.isLt)
  q _ := fullShare
  owed _ := 0

theorem A0_eq (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = res0 V c t.val t.isLt := by dsimp only [dat0]

theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A0_eq]; try rfl) t d).trans
    (by unfold Dat.fetched Dat.blockOf blk0; rw [A0_eq]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A0_eq]; try rfl) t d).trans
    (by unfold Dat.fetched Dat.blockOf blk0; rw [A0_eq]; try rfl)
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [A0_eq]; try rfl) t d).trans
    (by unfold Dat.fetched Dat.blockOf blk0; rw [A0_eq]; try rfl)
theorem before0_3 (c : Dev nD) (t : Fin cfg0.N) (d) : (dat0 V c).before 3 t d = blk0 V c 3 t :=
  ((dat0 V c).before_in_eq_fetched 3 rfl (fun _ => rfl) (fun _ _ _ => rfl) (fun t => by rw [after0_3]; unfold Dat.blockOf blk0; rw [A0_eq]; try rfl) t d).trans
    (by unfold Dat.fetched Dat.blockOf blk0; rw [A0_eq]; try rfl)
theorem before0_4 (c : Dev nD) (t : Fin cfg0.N) (d) : (dat0 V c).before 4 t d = blk0 V c 4 t :=
  ((dat0 V c).before_in_eq_fetched 4 rfl (fun _ => rfl) (fun _ _ _ => rfl) (fun t => by rw [after0_4]; unfold Dat.blockOf blk0; rw [A0_eq]; try rfl) t d).trans
    (by unfold Dat.fetched Dat.blockOf blk0; rw [A0_eq]; try rfl)
theorem leaves0_0 (c : Dev nD) (t : Fin cfg0.N) : (dat0 V c).leavesExact 0 t = owns (c : Thread nD τ) (st0_0 t) fullShare (blk0 V c 0 t) := by
  unfold Dat.leavesExact; rw [show cfg0.idle 0 (cfg0.grid.coords t) = false from rfl, after0_0]; try rfl
theorem leaves0_1 (c : Dev nD) (t : Fin cfg0.N) : (dat0 V c).leavesExact 1 t = owns (c : Thread nD τ) (st0_1 t) fullShare (blk0 V c 1 t) := by
  unfold Dat.leavesExact; rw [show cfg0.idle 1 (cfg0.grid.coords t) = false from rfl, after0_1]; try rfl
theorem leaves0_2 (c : Dev nD) (t : Fin cfg0.N) : (dat0 V c).leavesExact 2 t = owns (c : Thread nD τ) (st0_2 t) fullShare (blk0 V c 2 t) := by
  unfold Dat.leavesExact; rw [show cfg0.idle 2 (cfg0.grid.coords t) = false from rfl, after0_2]; try rfl
theorem leaves0_3 (c : Dev nD) (t : Fin cfg0.N) : (dat0 V c).leavesExact 3 t = owns (c : Thread nD τ) (st0_3 t) fullShare (blk0 V c 3 t) := by
  unfold Dat.leavesExact; rw [show cfg0.idle 3 (cfg0.grid.coords t) = false from rfl, after0_3]; try rfl
theorem leaves0_4 (c : Dev nD) (t : Fin cfg0.N) : (dat0 V c).leavesExact 4 t = owns (c : Thread nD τ) (st0_4 t) fullShare (blk0 V c 4 t) := by
  unfold Dat.leavesExact; rw [show cfg0.idle 4 (cfg0.grid.coords t) = false from rfl, after0_4]; try rfl

/-- The result window is idle at every point but the last, and written back at the last only. -/
theorem idle0_5 : ∀ t : Fin cfg0.N, t.val ≠ 9 → cfg0.idle 5 (grid0.coords t) = true :=
  (by decide +kernel : ∀ t : Fin grid0.N, t.val ≠ 9 → cfg0.idle 5 (grid0.coords t) = true)
theorem noFlush0_5 : ∀ t : Fin cfg0.N, t.val ≠ 9 → (cfg0.win 5).flush t = false :=
  (by decide +kernel : ∀ t : Fin cfg0.N, t.val ≠ 9 → (cfg0.win 5).flush t = false)
theorem live0_5 : ∀ t : Fin cfg0.N, t.val = 9 → cfg0.idle 5 (grid0.coords t) = false :=
  (by decide +kernel : ∀ t : Fin grid0.N, t.val = 9 → cfg0.idle 5 (grid0.coords t) = false)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4000000 in
/-- The body at any point, by its three cases. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, leaves0_0, leaves0_1, leaves0_2, leaves0_3, leaves0_4]
  rw [show (dat0 V c).owesAt () t.succ = (dat0 V c).owesAt () t.castSucc from rfl]
  have hN : t.val < 10 := lt_of_lt_of_eq t.isLt (show cfg0.N = 10 from N_0)
  obtain ⟨n, hn⟩ := t
  rw [show (dat0 V c).Φ (Fin.castSucc ⟨n, hn⟩) = Phi0 V c n (Nat.le_of_lt hn) from rfl,
    show (dat0 V c).Φ (Fin.succ ⟨n, hn⟩) = Phi0 V c (n + 1) hn from rfl]
  rcases n with _ | n
  · rw [Dat.leavesExact_idle (dat0 V c) 5 _ (idle0_5 ⟨0, hn⟩ (by show 0 ≠ 9; decide)) (noFlush0_5 ⟨0, hn⟩ (by show 0 ≠ 9; decide))]
    rw [show Phi0 V c 0 (Nat.le_of_lt hn) = Pipeline.ΦA spec0 c from rfl, scoped0_eq]
    rw [show Phi0 V c (0 + 1) hn = iprop(iprop(owns (c : Thread nD τ) scM0 fullShare (qt0 V c) ∗ owns (c : Thread nD τ) scM1 fullShare (qsq0 V c) ∗ owns (c : Thread nD τ) scM2 fullShare (k0_pay7 (blk0 V c 4 ⟨0, hn⟩) (qt0 V c)) ∗ rest0 c) ∗ (∃ r, prngReg c r)) from rfl]
    unfold qt0 qsq0
    iintro ⟨⟨⟨HS0, HS1, HS2, Hr⟩, Hg⟩, Ho, ⟨%d0, H0⟩, ⟨%d1, H1⟩, ⟨%d2, H2⟩, ⟨%d3, H3⟩, ⟨%d4, H4⟩, ⟨%d5, H5⟩⟩
    iapply (sound_first c Set.univ (grid0.coords ⟨0, hn⟩) _ _ _ _ _ _ _ _ _ _ _ _ _ _ _ _ _ _ ((isFirst_iff ⟨0, hn⟩).mpr rfl) (fun h => absurd ((isLater_iff ⟨0, hn⟩).mp h) (by show ¬ 1 ≤ 0; decide)) (fun h => absurd ((isLast_iff ⟨0, hn⟩).mp h) (by show ¬ 0 = 9; decide)) (blk0 V c 0 ⟨0, hn⟩) (blk0 V c 1 ⟨0, hn⟩) (blk0 V c 2 ⟨0, hn⟩) (blk0 V c 3 ⟨0, hn⟩) (blk0 V c 4 ⟨0, hn⟩) _ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hr Hg]
    · isplitl [HS0 HS1 HS2 Hr]
      · isplitl [HS0]; · iexact HS0
        isplitl [HS1]; · iexact HS1
        isplitl [HS2]; · iexact HS2
        iexact Hr
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  by_cases h9 : n + 1 = 9
  · rw [show (dat0 V c).leavesExact 5 ⟨n + 1, hn⟩ = owns (c : Thread nD τ) (st0_5 ⟨n + 1, hn⟩) fullShare (k0_pay9 (k0_pay8 (blk0 V c 4 ⟨n + 1, hn⟩) (qt0 V c) (acc0 V c n (Nat.lt_of_succ_lt hn))) (qsq0 V c)) from by
      unfold Dat.leavesExact; rw [live0_5 ⟨n + 1, hn⟩ h9, after0_5]; rfl]
    rw [show Phi0 V c (n + 1) (Nat.le_of_lt hn) = iprop(iprop(owns (c : Thread nD τ) scM0 fullShare (qt0 V c) ∗ owns (c : Thread nD τ) scM1 fullShare (qsq0 V c) ∗ owns (c : Thread nD τ) scM2 fullShare (acc0 V c n (Nat.lt_of_succ_lt hn)) ∗ rest0 c) ∗ (∃ r, prngReg c r)) from rfl]
    rw [show Phi0 V c (n + 1 + 1) hn = iprop(iprop(owns (c : Thread nD τ) scM0 fullShare (qt0 V c) ∗ owns (c : Thread nD τ) scM1 fullShare (qsq0 V c) ∗ owns (c : Thread nD τ) scM2 fullShare (k0_pay8 (blk0 V c 4 ⟨n + 1, hn⟩) (qt0 V c) (acc0 V c n (Nat.lt_of_succ_lt hn))) ∗ rest0 c) ∗ (∃ r, prngReg c r)) from rfl]
    iintro ⟨⟨⟨HS0, HS1, HS2, Hr⟩, Hg⟩, Ho, ⟨%d0, H0⟩, ⟨%d1, H1⟩, ⟨%d2, H2⟩, ⟨%d3, H3⟩, ⟨%d4, H4⟩, ⟨%d5, H5⟩⟩
    iapply (sound_last c Set.univ (grid0.coords ⟨n + 1, hn⟩) _ _ _ _ _ _ _ _ _ _ _ _ _ _ _ _ _ _ (fun h => absurd ((isFirst_iff ⟨n + 1, hn⟩).mp h) (Nat.succ_ne_zero n)) ((isLater_iff ⟨n + 1, hn⟩).mpr (Nat.succ_le_succ (Nat.zero_le n))) ((isLast_iff ⟨n + 1, hn⟩).mpr h9) (blk0 V c 0 ⟨n + 1, hn⟩) (blk0 V c 1 ⟨n + 1, hn⟩) (blk0 V c 2 ⟨n + 1, hn⟩) (blk0 V c 3 ⟨n + 1, hn⟩) (blk0 V c 4 ⟨n + 1, hn⟩) (qt0 V c) (qsq0 V c) (acc0 V c n (Nat.lt_of_succ_lt hn)) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2 Hr Hg]
    · isplitl [HS0 HS1 HS2 Hr]
      · isplitl [HS0]; · iexact HS0
        isplitl [HS1]; · iexact HS1
        isplitl [HS2]; · iexact HS2
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dat0 V c) 5 _ (idle0_5 ⟨n + 1, hn⟩ h9) (noFlush0_5 ⟨n + 1, hn⟩ h9)]
    rw [show Phi0 V c (n + 1) (Nat.le_of_lt hn) = iprop(iprop(owns (c : Thread nD τ) scM0 fullShare (qt0 V c) ∗ owns (c : Thread nD τ) scM1 fullShare (qsq0 V c) ∗ owns (c : Thread nD τ) scM2 fullShare (acc0 V c n (Nat.lt_of_succ_lt hn)) ∗ rest0 c) ∗ (∃ r, prngReg c r)) from rfl]
    rw [show Phi0 V c (n + 1 + 1) hn = iprop(iprop(owns (c : Thread nD τ) scM0 fullShare (qt0 V c) ∗ owns (c : Thread nD τ) scM1 fullShare (qsq0 V c) ∗ owns (c : Thread nD τ) scM2 fullShare (k0_pay8 (blk0 V c 4 ⟨n + 1, hn⟩) (qt0 V c) (acc0 V c n (Nat.lt_of_succ_lt hn))) ∗ rest0 c) ∗ (∃ r, prngReg c r)) from rfl]
    iintro ⟨⟨⟨HS0, HS1, HS2, Hr⟩, Hg⟩, Ho, ⟨%d0, H0⟩, ⟨%d1, H1⟩, ⟨%d2, H2⟩, ⟨%d3, H3⟩, ⟨%d4, H4⟩, ⟨%d5, H5⟩⟩
    iapply (sound_middle c Set.univ (grid0.coords ⟨n + 1, hn⟩) _ _ _ _ _ _ _ _ _ _ _ _ _ _ _ _ _ _ (fun h => absurd ((isFirst_iff ⟨n + 1, hn⟩).mp h) (Nat.succ_ne_zero n)) ((isLater_iff ⟨n + 1, hn⟩).mpr (Nat.succ_le_succ (Nat.zero_le n))) (fun h => h9 ((isLast_iff ⟨n + 1, hn⟩).mp h)) (blk0 V c 0 ⟨n + 1, hn⟩) (blk0 V c 1 ⟨n + 1, hn⟩) (blk0 V c 2 ⟨n + 1, hn⟩) (blk0 V c 3 ⟨n + 1, hn⟩) (blk0 V c 4 ⟨n + 1, hn⟩) _ (qt0 V c) (qsq0 V c) (acc0 V c n (Nat.lt_of_succ_lt hn)) _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hr Hg]
    · isplitl [HS0 HS1 HS2 Hr]
      · isplitl [HS0]; · iexact HS0
        isplitl [HS1]; · iexact HS1
        isplitl [HS2]; · iexact HS2
        iexact Hr
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

theorem defs₀_row0 (t : Fin cfg0.N) :
    defs₀ (F := F) .tc cfg0.body (cfg0.bodyArgs t (cfg0.slots t)) = bodyAt0 t := by
  unfold defs₀; rw [Defs.onTc_tc]

/-- The body obligation of call 1, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- After the last point the invariant gives the scratch back at some contents. -/
theorem Phi0_out (c : Dev nD) : (dat0 V c).Φ (Fin.last cfg0.N) ⊢ Pipeline.ΦA spec0 c := by
  have h : ∀ (n : ℕ) (hn : n ≤ cfg0.N), n ≠ 0 → Phi0 V c n hn ⊢ Pipeline.ΦA spec0 c := by
    intro n hn h0
    rcases n with _ | n
    · exact absurd rfl h0
    rw [scoped0_eq]; unfold Phi0
    iintro ⟨⟨HS0, HS1, HS2, Hr⟩, Hg⟩
    isplitl [HS0 HS1 HS2 Hr]
    · isplitl [HS0]; · iexists _; iexact HS0
      isplitl [HS1]; · iexists _; iexact HS1
      isplitl [HS2]; · iexists _; iexact HS2
      iexact Hr
    iexact Hg
  exact h cfg0.N (le_refl _) (by rw [show cfg0.N = 10 from N_0]; decide)

end Region0

end Cert.KernelIdeal.Run

end
-- ==== Proof.IdealRegion1.lean ====
/- The second call over the extended reals: its one point stores the image scores and the masks. -/
module

public import proofs.«01_k».proof.Proof.IdealBody
public import Idealize.ShloMosaic.Lib.Pipeline.RegionsLoop
public import Idealize.ShloMosaic.Lib.Pipeline.FrameSuffix

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1
variable (V : (c : Dev nD) → (b : Ref sig .tc) → Buf (Elt F) ((c : Thread nD τ).loc b))

/-! # Call 2: body, proof data and body obligation, at the entry contents `V` -/

/-- Window `w`'s block at point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two stores of call 2, each of a whole buffer. -/
abbrev imgRect : Rect S1x2 := Rect.unit (s := S1x2) ![0, 0] S1x2.size inb_S1x2_S1x2_0_0
abbrev maskRect : Rect S2x224x224 := Rect.unit (s := S2x224x224) ![0, 0, 0] S2x224x224.size inb_S2x224x224_S2x224x224_0_0_0

theorem img_cover (p : Vec F S1x2 .f32) (y : S1x2.Idx) :
    ∃ pc ∈ ([⟨imgRect, p⟩] : List (View.Piece (Elt F) S1x2 .f32)), y ∈ pc.1.set :=
  View.cover_of_tiled [⟨imgRect, p⟩] S1x2.size (by rfl) y
theorem mask_cover (p : Vec F S2x224x224 .f32) (y : S2x224x224.Idx) :
    ∃ pc ∈ ([⟨maskRect, p⟩] : List (View.Piece (Elt F) S2x224x224 .f32)), y ∈ pc.1.set :=
  View.cover_of_tiled [⟨maskRect, p⟩] S2x224x224.size (by rfl) y

set_option maxHeartbeats 1000000 in
/-- The body of call 2 leaves the image scores and the masks of its two inputs. -/
theorem sound_resize (c : Dev nD) (E : Set ℕ) (arg0 : Memref sig .tc .vmem S2x28x28 .f32) (harg0 : arg0.IsWhole) (arg1 : Memref sig .tc .vmem S224x28 .f32) (harg1 : arg1.IsWhole) (arg2 : Memref sig .tc .vmem S1x2 .f32) (harg2 : arg2.IsWhole) (arg3 : Memref sig .tc .vmem S2x224x224 .f32) (harg3 : arg3.IsWhole)
    (x0 : Vec F S2x28x28 .f32) (x1 : Vec F S224x28 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1 ∗ owns (c : Thread nD τ) arg2 fullShare (k1_pay3 x0) ∗ owns (c : Thread nD τ) arg3 fullShare (k1_pay2 x0 x1)) -∗ K ⟨⟩))
      ⊢ wp frame (wpE (defs₀ (F := F)) Variants.none c none) E (cc1__final_body arg0 harg0 arg1 harg1 arg2 harg2 arg3 harg3) K := by
  simp only [cc1__final_body_eq_skeleton]; unfold cc1__final_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (img_cover _)).trans ?_
    exact (View.canon_unit_zero (Val := Elt F) (S := S1x2) z2 inb_S1x2_S1x2_0_0 _).trans (congrArg k1_pay3 (load_whole arg0.view f0 z3 inb_S2x28x28_S2x28x28_0_0_0))
  iexists _; isplitr
  swap; · iexact H3
  ipureintro
  refine (View.read_writes_eq_canon _ _ _ (mask_cover _)).trans ?_
  exact (View.canon_unit_zero (Val := Elt F) (S := S2x224x224) z3 inb_S2x224x224_S2x224x224_0_0_0 _).trans
    (congrArg₂ k1_pay2 (load_whole arg0.view f0 z3 inb_S2x28x28_S2x28x28_0_0_0) (load_whole arg1.view f1 z2 inb_S224x28_S224x28_0_0))

/-- The proof data of call 2's pipeline. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => k1_pay3 (blk1 V c 0 t)
    | ⟨3, _⟩ => k1_pay2 (blk1 V c 0 t) (blk1 V c 1 t)
  Φ _ := Pipeline.ΦA spec1 c
  q _ := fullShare
  owed _ := 0

theorem A1_eq (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = k1_pay3 (blk1 V c 0 t) := by dsimp only [dat1]
theorem after1_3 (c : Dev nD) (t : Fin cfg1.N) : (dat1 V c).after 3 t = k1_pay2 (blk1 V c 0 t) (blk1 V c 1 t) := by dsimp only [dat1]

theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A1_eq]; try rfl) t d).trans
    (by unfold Dat.fetched Dat.blockOf blk1; rw [A1_eq]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A1_eq]; try rfl) t d).trans
    (by unfold Dat.fetched Dat.blockOf blk1; rw [A1_eq]; try rfl)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_resize c Set.univ _ _ _ _ _ _ _ _ (blk1 V c 0 t) (blk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row1 (t : Fin cfg1.N) :
    defs₀ (F := F) .tc cfg1.body (cfg1.bodyArgs t (cfg1.slots t)) = bodyAt1 t := by
  unfold defs₀; rw [Defs.onTc_tc]

/-- The body obligation of call 2. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Region1

end Cert.KernelIdeal.Run

end
-- ==== Proof.IdealRun.lean ====
/- The whole kernel over the extended reals: host code and both calls in order, what every buffer holds at the end, and the frame. -/
module

public import proofs.«01_k».proof.Proof.IdealRegion0
public import proofs.«01_k».proof.Proof.IdealRegion1
public import proofs.«01_k».proof.Proof.Gen.KernelIdeal.Regions

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The run: the buffers' contents at each boundary, the two calls as segments, the launch -/

/-- The buffers when call 1 is entered: the host part computed. -/
abbrev W8 (c : Dev nD) : Valuation τ sig (Elt F) := V8 m c
abbrev X8 : (c : Dev nD) → (b : Ref sig .tc) → Buf (Elt F) ((c : Thread nD τ).loc b) := fun c b => W8 m c b
/-- After call 1: its arrays at what the pipeline leaves, every other buffer as before. -/
def W9 (c : Dev nD) : Valuation τ sig (Elt F) :=
  Pipeline.withArrays spec0 c (W8 m c) fun w => (dat0 (X8 m) c).arrAt w cfg0.N
abbrev X9 : (c : Dev nD) → (b : Ref sig .tc) → Buf (Elt F) ((c : Thread nD τ).loc b) := fun c b => W9 m c b
theorem W9_arr (c : Dev nD) (w : Fin cfg0.W) :
    W9 m c (Proc.devRef .tc (Pipeline.arrRef spec0 w)) = (dat0 (X8 m) c).arrAt w cfg0.N := by
  unfold W9; exact Pipeline.withArrays_arr spec0 launch0.win.arr_inj c _ _ w
theorem W9_of_ne (c : Dev nD) (b : Ref sig .tc) (hb : ∀ w, Pipeline.arrRef spec0 w ≠ b) :
    W9 m c (Proc.devRef .tc b) = W8 m c (Proc.devRef .tc b) := by
  unfold W9; exact Pipeline.withArrays_of_ne spec0 c _ _ b hb
/-- A buffer that is none of the call's results keeps its contents. -/
theorem W9_of (c : Dev nD) (r : Ref sig .tc) (h : ∀ w : Fin cfg0.W, Pipeline.arrRef spec0 w = r → (cfg0.win w).isOut = false) :
    W9 m c (Proc.devRef .tc r) = W8 m c (Proc.devRef .tc r) := by
  by_cases hw : ∃ w : Fin cfg0.W, Pipeline.arrRef spec0 w = r
  · obtain ⟨w, rfl⟩ := hw
    exact (W9_arr m c w).trans (((dat0 (X8 m) c).arrAt_in w (h w rfl) _).trans (A0_eq (X8 m) c w))
  · exact W9_of_ne m c r fun w e => hw ⟨w, e⟩
theorem leave0 (c : Dev nD) (w : Fin cfg0.W) : (dat0 (X8 m) c).arrAt w cfg0.N = X9 m c (Pipeline.arrRef spec0 w) :=
  (W9_arr m c w).symm
theorem keep0 (c : Dev nD) : ∀ b, b ∉ Finset.univ.image (Pipeline.arrRef spec0) → X9 m c b = X8 m c b :=
  fun b hb => W9_of_ne m c b fun w e => hb (Finset.mem_image.mpr ⟨w, Finset.mem_univ _, e⟩)

/-- When call 2 is entered. -/
abbrev W10 (c : Dev nD) : Valuation τ sig (Elt F) := StableHlo.after hostOps1 (W9 m c)
abbrev X10 : (c : Dev nD) → (b : Ref sig .tc) → Buf (Elt F) ((c : Thread nD τ).loc b) := fun c b => W10 m c b
theorem W10_of (c : Dev nD) (r : Ref sig .tc) (h : r ∉ hostOps1_W) : W10 m c (Proc.devRef .tc r) = W9 m c (Proc.devRef .tc r) :=
  StableHlo.after_of_writes_sub hostOps1 _ hostOps1_writes h
/-- After call 2: its arrays at what the pipeline leaves, every other buffer as before. -/
def W11 (c : Dev nD) : Valuation τ sig (Elt F) :=
  Pipeline.withArrays spec1 c (W10 m c) fun w => (dat1 (X10 m) c).arrAt w cfg1.N
abbrev X11 : (c : Dev nD) → (b : Ref sig .tc) → Buf (Elt F) ((c : Thread nD τ).loc b) := fun c b => W11 m c b
theorem W11_arr (c : Dev nD) (w : Fin cfg1.W) :
    W11 m c (Proc.devRef .tc (Pipeline.arrRef spec1 w)) = (dat1 (X10 m) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m c (Proc.devRef .tc b) = W10 m c (Proc.devRef .tc b) := by
  unfold W11; exact Pipeline.withArrays_of_ne spec1 c _ _ b hb
/-- A buffer that is none of the call's results keeps its contents. -/
theorem W11_of (c : Dev nD) (r : Ref sig .tc) (h : ∀ w : Fin cfg1.W, Pipeline.arrRef spec1 w = r → (cfg1.win w).isOut = false) :
    W11 m c (Proc.devRef .tc r) = W10 m c (Proc.devRef .tc r) := by
  by_cases hw : ∃ w : Fin cfg1.W, Pipeline.arrRef spec1 w = r
  · obtain ⟨w, rfl⟩ := hw
    exact (W11_arr m c w).trans (((dat1 (X10 m) c).arrAt_in w (h w rfl) _).trans (A1_eq (X10 m) c w))
  · exact W11_of_ne m c r fun w e => hw ⟨w, e⟩
theorem leave1 (c : Dev nD) (w : Fin cfg1.W) : (dat1 (X10 m) c).arrAt w cfg1.N = X11 m c (Pipeline.arrRef spec1 w) :=
  (W11_arr m c w).symm
theorem keep1 (c : Dev nD) : ∀ b, b ∉ Finset.univ.image (Pipeline.arrRef spec1) → X11 m c b = X10 m c b :=
  fun b hb => W11_of_ne m c b fun w e => hb (Finset.mem_image.mpr ⟨w, Finset.mem_univ _, e⟩)

/-- At the end. -/
abbrev W12 (c : Dev nD) : Valuation τ sig (Elt F) := StableHlo.after hostOps2 (W11 m c)
theorem W12_of (c : Dev nD) (r : Ref sig .tc) (h : r ∉ hostOps2_W) : W12 m c (Proc.devRef .tc r) = W11 m c (Proc.devRef .tc r) :=
  StableHlo.after_of_writes_sub hostOps2 _ hostOps2_writes h

/-- A buffer none of the host operations and none of the calls writes ends as launched. -/
theorem W12_arg (c : Dev nD) (r : Ref sig .tc) (h2 : r ∉ hostOps2_W) (h1 : r ∉ hostOps1_W)
    (e1 : ∀ w : Fin cfg1.W, Pipeline.arrRef spec1 w = r → (cfg1.win w).isOut = false)
    (e0 : ∀ w : Fin cfg0.W, Pipeline.arrRef spec0 w = r → (cfg0.win w).isOut = false)
    (h : V8 m c r = m ((c : Thread nD τ).loc r)) : W12 m c (Proc.devRef .tc r) = m ((c : Thread nD τ).loc r) :=
  (W12_of m c r h2).trans ((W11_of m c r e1).trans ((W10_of m c r h1).trans ((W9_of m c r e0).trans h)))
theorem W8_main_arg0 (c : Dev nD) : V8 m c main_arg0 = m ((c : Thread nD τ).loc main_arg0) := by
  rw [V8_of m c _ (by decide), V7_of m c _ (by decide), V6_of m c _ (by decide), V5_of m c _ (by decide), V4_of m c _ (by decide), V3_of m c _ (by decide), V2_of m c _ (by decide), V1_of m c _ (by decide)]
theorem W12_main_arg0 (c : Dev nD) : W12 m c (Proc.devRef .tc main_arg0) = m ((c : Thread nD τ).loc main_arg0) :=
  W12_arg m c main_arg0 (by decide) (by decide) (by decide) (by decide) (W8_main_arg0 m c)
theorem W8_main_arg1 (c : Dev nD) : V8 m c main_arg1 = m ((c : Thread nD τ).loc main_arg1) := by
  rw [V8_of m c _ (by decide), V7_of m c _ (by decide), V6_of m c _ (by decide), V5_of m c _ (by decide), V4_of m c _ (by decide), V3_of m c _ (by decide), V2_of m c _ (by decide), V1_of m c _ (by decide)]
theorem W12_main_arg1 (c : Dev nD) : W12 m c (Proc.devRef .tc main_arg1) = m ((c : Thread nD τ).loc main_arg1) :=
  W12_arg m c main_arg1 (by decide) (by decide) (by decide) (by decide) (W8_main_arg1 m c)
theorem W8_main_arg2 (c : Dev nD) : V8 m c main_arg2 = m ((c : Thread nD τ).loc main_arg2) := by
  rw [V8_of m c _ (by decide), V7_of m c _ (by decide), V6_of m c _ (by decide), V5_of m c _ (by decide), V4_of m c _ (by decide), V3_of m c _ (by decide), V2_of m c _ (by decide), V1_of m c _ (by decide)]
theorem W12_main_arg2 (c : Dev nD) : W12 m c (Proc.devRef .tc main_arg2) = m ((c : Thread nD τ).loc main_arg2) :=
  W12_arg m c main_arg2 (by decide) (by decide) (by decide) (by decide) (W8_main_arg2 m c)

/-- Both calls' proof data. -/
def pdats : (p : Fin 2) → (c : Dev nD) → Dat τ (Elt F) Unit ℕ (UR sig nD τ) ℕ (cfgs p) c
  | ⟨0, _⟩ => fun c => dat0 (X8 m) c
  | ⟨1, _⟩ => fun c => dat1 (X10 m) c
/-- No core owes another anything: no level is assigned. -/
abbrev lvls : GSem nD τ sig → Finset Unit := fun _ => ∅
abbrev lv : GSem nD τ sig → Unit → ℕ := fun _ _ => 0
/-- What rides beside the buffers: the generator register at some state and the core owing nothing. -/
abbrev ride (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none lvls lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride

set_option backward.isDefEq.respectTransparency.types false in
/-- Call 1 as a segment: entered from the buffers at `W8`, left at `W9`. -/
def reg0 : Pipeline.RegionSeg (pcfgs (F := F)) adm (pdats m) () defs₀ Variants.none lvls lv 0 where
  win := launch0.win.to₀
  block_pos := launch0.block_pos
  stage_whole := launch0.stage_whole
  K := PEmpty
  osem k := k.elim
  ho := Pipeline.OwnSemFacts.none _
  hbody c := (body_obligation0 (X8 m) c).loose
  hwaits := Pipeline.hwaits_of_owed_zero _ _ _ _ lvls lv 0 fun _ _ => rfl
  pre c := iprop(StableHlo.held (c : Thread nD τ) (Pipeline.ucRefs τ sig) (W8 m c) ∗ ride c)
  post c := iprop(StableHlo.held (c : Thread nD τ) (Pipeline.ucRefs τ sig) (W9 m c) ∗ ride c)
  X c := iprop(∃ r, prngReg c r)
  Y c := iprop(∃ r, prngReg c r)
  Z c := Pipeline.unscopedRest (Ix := Unit) (Name := ℕ) (U := UR sig nD τ) (Lvl := ℕ) spec0 c (X8 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (X8 m c) (A0_eq (X8 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    refine (show (pdats m 0 c).Φ (Fin.last _) ⊢ Pipeline.ΦA spec0 c from Phi0_out (X8 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (X8 m c) (X9 m c) ((pdats m 0 c).arrAt · cfg0.N) (leave0 m c) (keep0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered from the buffers at `W10`, left at `W11`. -/
def reg1 : Pipeline.RegionSeg (pcfgs (F := F)) adm (pdats m) () defs₀ Variants.none lvls lv 1 where
  win := launch1.win.to₀
  block_pos := launch1.block_pos
  stage_whole := launch1.stage_whole
  K := PEmpty
  osem k := k.elim
  ho := Pipeline.OwnSemFacts.none _
  hbody c := (body_obligation1 (X10 m) c).loose
  hwaits := Pipeline.hwaits_of_owed_zero _ _ _ _ lvls lv 1 fun _ _ => rfl
  pre c := iprop(StableHlo.held (c : Thread nD τ) (Pipeline.ucRefs τ sig) (W10 m c) ∗ ride c)
  post c := iprop(StableHlo.held (c : Thread nD τ) (Pipeline.ucRefs τ sig) (W11 m c) ∗ ride c)
  X c := iprop(∃ r, prngReg c r)
  Y c := iprop(∃ r, prngReg c r)
  Z c := Pipeline.unscopedRest (Ix := Unit) (Name := ℕ) (U := UR sig nD τ) (Lvl := ℕ) spec1 c (X10 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (X10 m c) (A1_eq (X10 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (X10 m c) (X11 m c) ((pdats m 1 c).arrAt · cfg1.N) (leave1 m c) (keep1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's segments in order. -/
abbrev parts : List (Pipeline.Seg (pcfgs (F := F)) adm (pdats m) () defs₀ Variants.none lvls lv) :=
  [.host (hseg hostOps0 hostOps0_sub hostOps0_fresh (V0 m)), .host (hseg hostOps0_1 hostOps0_1_sub hostOps0_1_fresh (V1 m)), .host (hseg hostOps0_2 hostOps0_2_sub hostOps0_2_fresh (V2 m)), .host (hseg hostOps0_3 hostOps0_3_sub hostOps0_3_fresh (V3 m)), .host (hseg hostOps0_4 hostOps0_4_sub hostOps0_4_fresh (V4 m)), .host (hseg hostOps0_5 hostOps0_5_sub hostOps0_5_fresh (V5 m)), .host (hseg hostOps0_6 hostOps0_6_sub hostOps0_6_fresh (V6 m)), .host (hseg hostOps0_7 hostOps0_7_sub hostOps0_7_fresh (V7 m)),
    .region (reg0 m), .host (hseg hostOps1 hostOps1_sub hostOps1_fresh (W9 m)),
    .region (reg1 m), .host (hseg hostOps2 hostOps2_sub hostOps2_fresh (W11 m))]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main from memory `m` with zero counters terminates without fault, and at the end
    every buffer of the program holds `W12` and every semaphore counter is zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W12 m c b) ∧ r.2.sem = fun _ => 0) :=
  Pipeline.θ_run_regions_kit_sems (pcfgs (F := F)) adm (pdats m) () cellOf_inj emb₁ defs₀ Variants.none lvls lv m ρ main (parts m)
    (fun c Q => by
      rewrite [main_chain c, Pipeline.Seg.run_eq_chain,
        show (parts m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ ride c))
    (Tₙ := fun c => iprop(StableHlo.held (c : Thread nD τ) (Pipeline.ucRefs τ sig) (W12 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach lvls lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h hz => ⟨h, funext fun g => hz g (.inr (regions_no_unscoped g.2))⟩)

/-- The frame: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c _ (mem_uc main_arg0 (by decide))).trans (W12_main_arg0 m c),
     (h.1 c _ (mem_uc main_arg1 (by decide))).trans (W12_main_arg1 m c),
     (h.1 c _ (mem_uc main_arg2 (by decide))).trans (W12_main_arg2 m c)⟩, h.2⟩) (run_all m ρ)

end Cert.KernelIdeal.Run

end
-- ==== Proof.RealSums.lean ====
/- Facts about real sums and extended reals that both sides use: the values of the constants, sums of reals inside the
   extended reals, sums against a window or a band of equal weights, and least values of a sequence. -/
module

public import Idealize.ShloMosaic.PureOps.Ideal
public import Idealize.ShloMosaic.Lib.Pointwise

@[expose] public section

noncomputable section

namespace Cert.Spec

open Idealize.ShloMosaic Finset

/-- The sum of reals, read as extended reals, is the extended real of their sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The absolute value of a real. -/
theorem absf_coe (r : ℝ) : FloatOps.absf (F := Ideal) (φ := .f32) ((r : ℝ) : EReal) = ((|r| : ℝ) : EReal) := by
  change max ((r : ℝ) : EReal) (-((r : ℝ) : EReal)) = _
  rw [← EReal.coe_neg]; exact (EReal.coe_strictMono.monotone.map_max).symm

/-- The number a word of a small natural stands for. -/
theorem sitofp_word (n : ℕ) (hn : n < 2 ^ 31) : FloatOps.sitofp (F := Ideal) .f32 (BitVec.ofNat 32 n) = (((n : ℝ) : ℝ) : EReal) := by
  change ((((BitVec.ofNat 32 n).toInt : ℤ) : ℝ) : EReal) = _
  have h : (BitVec.ofNat 32 n).toInt = (n : ℤ) := by
    rw [BitVec.toInt_eq_toNat_of_lt (by rw [BitVec.toNat_ofNat]; omega), BitVec.toNat_ofNat]; congr 1; omega
  rw [h]; norm_cast

/-- A sum against the indicator of a window of `w` places from `a` is the sum over the window. -/
theorem window_sum (L a w : ℕ) (h : a + w ≤ L) (f : ℕ → ℝ) (κ : ℝ) :
    ∑ k ∈ range L, f k * (if a ≤ k ∧ k < a + w then κ else 0) = κ * ∑ t ∈ range w, f (a + t) := by
  have e : ∑ k ∈ range L, f k * (if a ≤ k ∧ k < a + w then κ else 0) = ∑ k ∈ Finset.Ico a (a + w), f k * κ := by
    simp only [mul_ite, mul_zero]
    rw [← Finset.sum_filter]
    refine Finset.sum_congr (Finset.ext fun k => ?_) fun _ _ => rfl
    simp only [mem_filter, mem_range, mem_Ico]; omega
  rw [e, Finset.sum_Ico_eq_sum_range, Nat.add_sub_cancel_left, Finset.mul_sum]
  exact Finset.sum_congr rfl fun t _ => mul_comm _ _

/-- Whether two places are at most one apart. -/
abbrev near (r i : ℕ) : Prop := r ≤ i + 1 ∧ i ≤ r + 1

/-- The sum of a function over the places at most one from `i`, the function being zero off `[0, n)`, is the sum of its three
    values around `i`. -/
theorem band_sum (n i : ℕ) (hi : i < n) (g : ℤ → ℝ) (h0 : g (-1) = 0) (hn : g n = 0) :
    ∑ r ∈ range n, (if near r i then g r else 0) = ∑ t ∈ range 3, g (i + t - 1) := by
  have one : ∀ z : ℤ, -1 ≤ z → z ≤ n → ∑ r ∈ range n, (if (r : ℤ) = z then g r else 0) = g z := fun z h1 h2 => by
    rcases eq_or_lt_of_le h1 with h | h
    · subst h
      rw [h0]; exact Finset.sum_eq_zero fun r _ => if_neg (by omega)
    · rcases eq_or_lt_of_le h2 with h' | h'
      · subst h'
        rw [hn]; exact Finset.sum_eq_zero fun r hr => if_neg (by have := mem_range.1 hr; omega)
      · rw [Finset.sum_eq_single z.toNat]
        · have : ((z.toNat : ℕ) : ℤ) = z := by omega
          rw [if_pos this, this]
        · intro r _ hr
          exact if_neg (by omega)
        · intro hr
          exact absurd (mem_range.2 (by omega)) hr
  have e : ∀ t ∈ range 3, g (i + t - 1) = ∑ r ∈ range n, (if (r : ℤ) = i + t - 1 then g r else 0) := fun t ht =>
    (one _ (by omega) (by have := mem_range.1 ht; omega)).symm
  rw [Finset.sum_congr rfl e, Finset.sum_comm]
  refine Finset.sum_congr rfl fun r _ => ?_
  simp only [Finset.sum_range_succ, Finset.sum_range_zero, zero_add]
  push_cast
  by_cases h1 : (r : ℤ) = i + 0 - 1
  · rw [if_pos (by omega), if_pos h1, if_neg (by omega), if_neg (by omega)]; simp
  · by_cases h2 : (r : ℤ) = i + 1 - 1
    · rw [if_pos (by omega), if_neg h1, if_pos h2, if_neg (by omega)]; simp
    · by_cases h3 : (r : ℤ) = i + 2 - 1
      · rw [if_pos (by omega), if_neg h1, if_neg h2, if_pos h3]; simp
      · rw [if_neg (by omega), if_neg h1, if_neg h2, if_neg h3]; simp

/-- `A` is the least of `g 0, …, g (N − 1)`. -/
def Least (N : ℕ) (g : ℕ → EReal) (A : EReal) : Prop := ∀ z, z ≤ A ↔ ∀ k < N, z ≤ g k

/-- There is one least value. -/
theorem Least.unique {N : ℕ} {g : ℕ → EReal} {A B : EReal} (hA : Least N g A) (hB : Least N g B) : A = B :=
  le_antisymm ((hB A).2 ((hA A).1 le_rfl)) ((hA B).2 ((hB B).1 le_rfl))

/-- The fold of the minimum over `n` places is their least value. -/
theorem least_fold {n : ℕ} (f : Fin n → EReal) (g : ℕ → EReal) (h : ∀ k (hk : k < n), f ⟨k, hk⟩ = g k) :
    Least n g (Finset.fold min (⊤ : EReal) f Finset.univ) := fun z => by
  rw [Finset.le_fold_min]
  constructor
  · rintro ⟨-, hz⟩ k hk
    rw [← h k hk]; exact hz _ (Finset.mem_univ _)
  · intro hz
    exact ⟨le_top, fun x _ => by rw [show x = ⟨x.val, x.isLt⟩ from rfl, h]; exact hz _ x.isLt⟩

/-- The least value of a longer sequence from that of its beginning and of the next stretch. -/
theorem Least.append {N n : ℕ} {g : ℕ → EReal} {A B : EReal} (hA : Least N g A) (hB : Least n (fun k => g (N + k)) B) :
    Least (N + n) g (min A B) := fun z => by
  rw [le_min_iff, hA, hB]
  constructor
  · rintro ⟨h1, h2⟩ k hk
    by_cases hk' : k < N
    · exact h1 k hk'
    · have := h2 (k - N) (by omega)
      simpa [show N + (k - N) = k by omega] using this
  · intro h
    exact ⟨fun k hk => h k (by omega), fun k hk => h _ (by omega)⟩

/-- Adding a real to every value adds it to the least. -/
theorem Least.add_coe {N : ℕ} {g : ℕ → EReal} {A : EReal} (hA : Least N g A) (r : ℝ) :
    Least N (fun k => g k + (r : EReal)) (A + (r : EReal)) := fun z => by
  have key : ∀ x : EReal, z ≤ x + (r : EReal) ↔ z - (r : EReal) ≤ x := fun x =>
    (EReal.sub_le_iff_le_add (.inl (EReal.coe_ne_bot r)) (.inl (EReal.coe_ne_top r))).symm
  rw [key, hA]
  exact forall₂_congr fun k _ => (key _).symm

end Cert.Spec

end
-- ==== Proof.RefPools.lean ====
/- The weights of the reference's three adaptive poolings: output `o` of `O` averages the inputs from `⌊o L / O⌋` to
   `⌈(o + 1) L / O⌉` of `L`. -/
module

public import proofs.«01_k».proof.Proof.Gen.ReferenceIdeal.Read
public import proofs.«01_k».proof.Proof.RealSums
public import Idealize.ShloMosaic.Lib.Pointwise
public import Idealize.ShloMosaic.Lib.Routing.Words

@[expose] public section

set_option maxRecDepth 16384

noncomputable section

namespace Cert.ReferenceIdeal.Math

open Idealize.ShloMosaic Cert.ReferenceIdeal.Read Cert.ReferenceIdeal Cert.Spec

/-- The integer a word of a small natural stands for. -/
theorem toInt_word (n : ℕ) (hn : n < 2 ^ 31) : (BitVec.ofNat 32 n).toInt = (n : ℤ) := by
  rw [BitVec.toInt_eq_toNat_of_lt (by rw [BitVec.toNat_ofNat]; omega), BitVec.toNat_ofNat]; congr 1; omega

/-- The pooling weight as the words compute it is the average over the window. -/
theorem pool_word (L O o k : ℕ) (s e : ℕ) (hs : s = o * L / O) (he : e = ((o + 1) * L + (O - 1)) / O) (hO : 0 < O) (hO' : O < 2 ^ 31)
    (h1 : (o + 1) * L + (O - 1) < 2 ^ 31) (hk : k < 2 ^ 31) (hlt : s < e) (z : Ideal .f32) (hz : z = 0) :
    Scalar.select
      (IntOp.andi
        (IntOp.cmpi .sle (IntOp.divsi .host (IntOp.muli (BitVec.ofNat 32 o) (BitVec.ofNat 32 L)) (BitVec.ofNat 32 O)) (BitVec.ofNat 32 k))
        (IntOp.cmpi .slt (BitVec.ofNat 32 k)
          (IntOp.divsi .host (IntOp.addi (IntOp.muli (IntOp.addi (BitVec.ofNat 32 o) (BitVec.ofNat 32 1)) (BitVec.ofNat 32 L)) (BitVec.ofNat 32 (O - 1))) (BitVec.ofNat 32 O))))
      (Ideal.div 1 (FloatOps.sitofp (F := Ideal) .f32
        (IntOp.subi (IntOp.divsi .host (IntOp.addi (IntOp.muli (IntOp.addi (BitVec.ofNat 32 o) (BitVec.ofNat 32 1)) (BitVec.ofNat 32 L)) (BitVec.ofNat 32 (O - 1))) (BitVec.ofNat 32 O))
          (IntOp.divsi .host (IntOp.muli (BitVec.ofNat 32 o) (BitVec.ofNat 32 L)) (BitVec.ofNat 32 O)))))
      z = (((if s ≤ k ∧ k < s + (e - s) then 1 / ((e - s : ℕ) : ℝ) else 0 : ℝ)) : EReal) := by
  have w1 : IntOp.muli (BitVec.ofNat 32 o) (BitVec.ofNat 32 L) = BitVec.ofNat 32 (o * L) := (BitVec.ofNat_mul _ _).symm
  have w2 : IntOp.addi (IntOp.muli (IntOp.addi (BitVec.ofNat 32 o) (BitVec.ofNat 32 1)) (BitVec.ofNat 32 L)) (BitVec.ofNat 32 (O - 1)) = BitVec.ofNat 32 ((o + 1) * L + (O - 1)) := by
    rw [BitVec.ofNat_add, BitVec.ofNat_mul, BitVec.ofNat_add]; rfl
  have b1 : o * L < 2 ^ 31 := lt_of_le_of_lt (Nat.mul_le_mul_right L (show o ≤ o + 1 by omega)) (by omega)
  have bs : s < 2 ^ 31 := hs ▸ lt_of_le_of_lt (Nat.div_le_self _ _) b1
  have be : e < 2 ^ 31 := he ▸ lt_of_le_of_lt (Nat.div_le_self _ _) h1
  rw [w1, w2, Routing.divsi_word _ b1 hO hO', Routing.divsi_word _ h1 hO hO', ← hs, ← he]
  have w3 : IntOp.subi (BitVec.ofNat 32 e) (BitVec.ofNat 32 s) = BitVec.ofNat 32 (e - s) :=
    BitVec.ofNat_sub_ofNat_of_le _ _ (by omega) hlt.le
  have hne : (((e - s : ℕ) : ℝ)) ≠ 0 := Nat.cast_ne_zero.2 (by omega)
  rw [w3, show ∀ a b : BitVec 32, IntOp.cmpi .sle a b = BitVec.ofBool (decide (a.toInt ≤ b.toInt)) from fun _ _ => rfl, show ∀ a b : BitVec 32, IntOp.cmpi .slt a b = BitVec.ofBool (decide (a.toInt < b.toInt)) from fun _ _ => rfl, toInt_word _ bs, toInt_word _ be, toInt_word _ hk, sitofp_word _ (by omega), Ideal.div_coe hne, one_mul, hz]
  by_cases c1 : s ≤ k
  · by_cases c2 : k < e
    · rw [decide_eq_true (by exact_mod_cast c1), decide_eq_true (by exact_mod_cast c2), if_pos ⟨c1, by omega⟩]; rfl
    · rw [decide_eq_false (p := ((k : ℤ) < e)) (by omega), if_neg (by omega), decide_eq_true (by exact_mod_cast c1)]; rfl
  · rw [decide_eq_false (p := ((s : ℤ) ≤ k)) (by omega), if_neg (by omega)]
    by_cases c2 : k < e
    · rw [decide_eq_true (by exact_mod_cast c2)]; rfl
    · rw [decide_eq_false (p := ((k : ℤ) < e)) (by omega)]; rfl

/-- The weights of the first 1024 averages, of 4608 entries each time five from `⌊9 o / 2⌋`. -/
theorem pool_first (o : Fin 1024) (k : Fin 4608) : val_main_v172 (F := Ideal) (ix2 o k)
    = (((if 9 * o.val / 2 ≤ k.val ∧ k.val < 9 * o.val / 2 + 5 then (1 / 5 : ℝ) else 0 : ℝ)) : EReal) := by
  have hs : 9 * o.val / 2 = o.val * 4608 / 1024 := by omega
  have he : 9 * o.val / 2 + 5 = ((o.val + 1) * 4608 + (1024 - 1)) / 1024 := by omega
  have key := pool_word 4608 1024 o.val k.val (9 * o.val / 2) (9 * o.val / 2 + 5) hs he (by norm_num) (by norm_num) (by omega) (by omega) (by omega)
  rw [Nat.add_sub_cancel_left] at key
  pointwise [val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_call2_v1, val_main_call2_v0, val_main_c_32, val_main_c_33, val_main_c_34, val_main_c_35, val_main_c_36, val_main_c_37, val_main_cst_38, val_main_cst_39]
  exact (key _ Ideal.ofBits_zero_f32).trans (by norm_num)

/-- The weights of the second 1024 averages, of 9216 entries each time nine from `9 o`. -/
theorem pool_second (o : Fin 1024) (k : Fin 9216) : val_main_v194 (F := Ideal) (ix2 o k)
    = (((if 9 * o.val ≤ k.val ∧ k.val < 9 * o.val + 9 then (1 / 9 : ℝ) else 0 : ℝ)) : EReal) := by
  have hs : 9 * o.val = o.val * 9216 / 1024 := by omega
  have he : 9 * o.val + 9 = ((o.val + 1) * 9216 + (1024 - 1)) / 1024 := by omega
  have key := pool_word 9216 1024 o.val k.val (9 * o.val) (9 * o.val + 9) hs he (by norm_num) (by norm_num) (by omega) (by omega) (by omega)
  rw [Nat.add_sub_cancel_left] at key
  pointwise [val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_call3_v1, val_main_call3_v0, val_main_c_40, val_main_c_41, val_main_c_42, val_main_c_43, val_main_c_44, val_main_c_45, val_main_cst_46, val_main_cst_47]
  exact (key _ Ideal.ofBits_zero_f32).trans (by norm_num)

/-- The weights of the last 128 averages, of 2048 entries each time sixteen from `16 o`. -/
theorem pool_last (o : Fin 128) (k : Fin 2048) : val_main_v224 (F := Ideal) (ix2 o k)
    = (((if 16 * o.val ≤ k.val ∧ k.val < 16 * o.val + 16 then (1 / 16 : ℝ) else 0 : ℝ)) : EReal) := by
  have hs : 16 * o.val = o.val * 2048 / 128 := by omega
  have he : 16 * o.val + 16 = ((o.val + 1) * 2048 + (128 - 1)) / 128 := by omega
  have key := pool_word 2048 128 o.val k.val (16 * o.val) (16 * o.val + 16) hs he (by norm_num) (by norm_num) (by omega) (by omega) (by omega)
  rw [Nat.add_sub_cancel_left] at key
  pointwise [val_main_v224, val_main_v223, val_main_v222, val_main_v221, val_main_v220, val_main_v219, val_main_v218, val_main_v217, val_main_v216, val_main_v215, val_main_v214, val_main_v213, val_main_v212, val_main_v211, val_main_v210, val_main_v209, val_main_v208, val_main_v207, val_main_v206, val_main_v205, val_main_v204, val_main_v203, val_main_call4_v1, val_main_call4_v0, val_main_c_48, val_main_c_49, val_main_c_50, val_main_c_51, val_main_c_52, val_main_c_53, val_main_cst_54, val_main_cst_55]
  exact (key _ Ideal.ofBits_zero_f32).trans (by norm_num)

end Cert.ReferenceIdeal.Math

end
-- ==== Proof.Maps.lean ====
/- The three arguments as real functions of natural and integer places: a feature map is zero outside its rows and columns. -/
module

public import proofs.«01_k».proof.Proof.Gen.ReferenceIdeal
public import proofs.«01_k».proof.Proof.RealSums
public import Idealize.ShloMosaic.Lib.Pointwise

@[expose] public section

noncomputable section

namespace Cert.Spec

open Idealize.ShloMosaic Cert.ReferenceIdeal

/-- The first feature map at row `i` and column `j` of channel `c` of image `b`, zero off the map. -/
def at1 (x : (⟨S2x512x28x28, .f32⟩ : BufTy).Contents (Elt Ideal)) (b c : ℕ) (i j : ℤ) : ℝ :=
  if h : (b < 2 ∧ c < 512) ∧ (0 ≤ i ∧ i < 28) ∧ 0 ≤ j ∧ j < 28 then
    EReal.toReal (x (ix4 ⟨b, h.1.1⟩ ⟨c, h.1.2⟩ ⟨i.toNat, by omega⟩ ⟨j.toNat, by omega⟩)) else 0

/-- The second feature map at row `i` and column `j` of channel `c` of image `b`, zero off the map. -/
def at2 (x : (⟨S2x1024x14x14, .f32⟩ : BufTy).Contents (Elt Ideal)) (b c : ℕ) (i j : ℤ) : ℝ :=
  if h : (b < 2 ∧ c < 1024) ∧ (0 ≤ i ∧ i < 14) ∧ 0 ≤ j ∧ j < 14 then
    EReal.toReal (x (ix4 ⟨b, h.1.1⟩ ⟨c, h.1.2⟩ ⟨i.toNat, by omega⟩ ⟨j.toNat, by omega⟩)) else 0

/-- The bank's entry `d` of row `k`, zero off the bank. -/
def atM (x : (⟨S100000x128, .f32⟩ : BufTy).Contents (Elt Ideal)) (k d : ℕ) : ℝ :=
  if h : k < 100000 ∧ d < 128 then EReal.toReal (x (ix2 ⟨k, h.1⟩ ⟨d, h.2⟩)) else 0

/-- An array all of whose entries are real numbers. -/
def Real {t : Shape} (x : t.Idx → EReal) : Prop := ∀ i, x i = ((x i).toReal : EReal)

theorem at1_off_row (x) (b c : ℕ) (i j : ℤ) (h : i < 0 ∨ 28 ≤ i) : at1 x b c i j = 0 := dif_neg (by omega)
theorem at1_off_col (x) (b c : ℕ) (i j : ℤ) (h : j < 0 ∨ 28 ≤ j) : at1 x b c i j = 0 := dif_neg (by omega)
theorem at2_off_row (x) (b c : ℕ) (i j : ℤ) (h : i < 0 ∨ 14 ≤ i) : at2 x b c i j = 0 := dif_neg (by omega)
theorem at2_off_col (x) (b c : ℕ) (i j : ℤ) (h : j < 0 ∨ 14 ≤ j) : at2 x b c i j = 0 := dif_neg (by omega)

/-- An entry of the first map. -/
theorem at1_in (x : (⟨S2x512x28x28, .f32⟩ : BufTy).Contents (Elt Ideal)) (hx : Real x) (b : Fin 2) (c : Fin 512) (i j : Fin 28) :
    x (ix4 b c i j) = ((at1 x b.val c.val i.val j.val : ℝ) : EReal) := by
  rw [at1, dif_pos (by omega)]; exact hx _

/-- An entry of the second map. -/
theorem at2_in (x : (⟨S2x1024x14x14, .f32⟩ : BufTy).Contents (Elt Ideal)) (hx : Real x) (b : Fin 2) (c : Fin 1024) (i j : Fin 14) :
    x (ix4 b c i j) = ((at2 x b.val c.val i.val j.val : ℝ) : EReal) := by
  rw [at2, dif_pos (by omega)]; exact hx _

/-- An entry of the bank. -/
theorem atM_in (x : (⟨S100000x128, .f32⟩ : BufTy).Contents (Elt Ideal)) (hx : Real x) (k : Fin 100000) (d : Fin 128) :
    x (ix2 k d) = ((atM x k.val d.val : ℝ) : EReal) := by
  rw [atM, dif_pos ⟨k.isLt, d.isLt⟩]; exact hx _

end Cert.Spec

end
-- ==== Proof.RefUnfold1.lean ====
/- What the reference's unfolding of the first feature map holds: the nine shifted copies of every channel. -/
module

public import proofs.«01_k».proof.Proof.Gen.ReferenceIdeal.Read
public import proofs.«01_k».proof.Proof.Maps
public import Idealize.ShloMosaic.Lib.Pointwise
public import Idealize.ShloMosaic.Lib.ValueIdxRank6

@[expose] public section

set_option maxRecDepth 16384

noncomputable section

namespace Cert.ReferenceIdeal.Math

open Idealize.ShloMosaic Cert.ReferenceIdeal.Read Cert.ReferenceIdeal Cert.Spec

/-- The padded first map at a place is the map one place up and left, zero on the margin. -/
theorem padded_first (x0 : (⟨S2x512x28x28, .f32⟩ : BufTy).Contents (Elt Ideal)) (hx : Spec.Real x0) (b : Fin 2) (c : Fin 512) (r s : Fin 30) :
    val_main_v0 (F := Ideal) x0 (ix4 b c r s) = ((at1 x0 b.val c.val ((r.val : ℤ) - 1) ((s.val : ℤ) - 1) : ℝ) : EReal) := by
  pointwise [val_main_v0, val_main_call0_v0, val_main_c]
  by_cases h : (1 ≤ r.val ∧ r.val - 1 < 28) ∧ 1 ≤ s.val ∧ s.val - 1 < 28
  · rw [dif_pos h, at1_in _ hx]
    congr 2 <;> (dsimp only; omega)
  · rw [dif_neg h]
    have e : at1 x0 b.val c.val ((r.val : ℤ) - 1) ((s.val : ℤ) - 1) = 0 := dif_neg (by omega)
    rw [e]
    exact (sitofp_word 0 (by norm_num)).trans (by norm_num)

/-- The nine shifted copies of the first map, at copy `k`. -/
theorem copies_first (x0 : (⟨S2x512x28x28, .f32⟩ : BufTy).Contents (Elt Ideal)) (b : Fin 2) (c : Fin 512) (k : Fin 9) (r s : Fin 28) :
    val_main_v19 (F := Ideal) x0 (ix5 b c k r s) = val_main_v0 (F := Ideal) x0 (ix4 b c ⟨k.val / 3 + r.val, by omega⟩ ⟨k.val % 3 + s.val, by omega⟩) :=
  match k with
  | ⟨0, _⟩ => by
    pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1]
  | ⟨1, _⟩ => by
    pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1]
  | ⟨2, _⟩ => by
    pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1]
  | ⟨3, _⟩ => by
    pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1]
  | ⟨4, _⟩ => by
    pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1]
  | ⟨5, _⟩ => by
    pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1]
  | ⟨6, _⟩ => by
    pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1]
  | ⟨7, _⟩ => by
    pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1]
  | ⟨8, _⟩ => by
    pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1]

/-- The nine shifted copies of the first map as real numbers. -/
theorem copies_first_real (x0 : (⟨S2x512x28x28, .f32⟩ : BufTy).Contents (Elt Ideal)) (hx : Spec.Real x0) (b : Fin 2) (c : Fin 512) (k : Fin 9) (r s : Fin 28) :
    val_main_v19 (F := Ideal) x0 (ix5 b c k r s)
      = ((at1 x0 b.val c.val ((r.val : ℤ) + (k.val / 3 : ℕ) - 1) ((s.val : ℤ) + (k.val % 3 : ℕ) - 1) : ℝ) : EReal) := by
  rw [copies_first, padded_first _ hx]
  congr 2 <;> push_cast <;> ring

/-- The unfolded first map: row `b * 784 + h * 28 + w`, column `c * 9 + k`. -/
theorem flat_first (x0 : (⟨S2x512x28x28, .f32⟩ : BufTy).Contents (Elt Ideal)) (hx : Spec.Real x0) (n : Fin 1568) (k : Fin 4608)
    (b : Fin 2) (h w : Fin 28) (c : Fin 512) (i j : Fin 3) (hn : n.val = b.val * 784 + h.val * 28 + w.val) (hk : k.val = c.val * 9 + i.val * 3 + j.val) :
    val_main_v149 (F := Ideal) x0 (ix2 n k) = ((at1 x0 b.val c.val ((h.val : ℤ) + i.val - 1) ((w.val : ℤ) + j.val - 1) : ℝ) : EReal) := by
  have e1 : val_main_v149 (F := Ideal) x0 (ix2 n k) = val_main_v21 (F := Ideal) x0 (ix5 b ⟨h.val * 28 + w.val, by omega⟩ c i j) := by
    unfold val_main_v149
    generalize val_main_v21 (F := Ideal) x0 = y
    exact shapeCast_apply y _ _ _ (by
      rewrite [Shape.rowMajor_val_five, Shape.rowMajor_val_two]
      show (((b.val * 784 + (h.val * 28 + w.val)) * 512 + c.val) * 3 + i.val) * 3 + j.val = n.val * 4608 + k.val
      omega)
  have e2 : val_main_v21 (F := Ideal) x0 (ix5 b ⟨h.val * 28 + w.val, by omega⟩ c i j) = val_main_v20 (F := Ideal) x0 (ix5 b c i j ⟨h.val * 28 + w.val, by omega⟩) := by
    unfold val_main_v21
    generalize val_main_v20 (F := Ideal) x0 = y
    exact transpose_apply [0, 4, 1, 2, 3] y _ _ _ (fun a => match a with
      | ⟨0, _⟩ => rfl
      | ⟨1, _⟩ => rfl
      | ⟨2, _⟩ => rfl
      | ⟨3, _⟩ => rfl
      | ⟨4, _⟩ => rfl)
  have e3 : val_main_v20 (F := Ideal) x0 (ix5 b c i j ⟨h.val * 28 + w.val, by omega⟩) = val_main_v19 (F := Ideal) x0 (ix5 b c ⟨i.val * 3 + j.val, by omega⟩ h w) := by
    unfold val_main_v20
    generalize val_main_v19 (F := Ideal) x0 = y
    exact shapeCast_apply y _ _ _ (by
      rewrite [Shape.rowMajor_val_five, Shape.rowMajor_val_five]
      show (((b.val * 512 + c.val) * 9 + (i.val * 3 + j.val)) * 28 + h.val) * 28 + w.val = (((b.val * 512 + c.val) * 3 + i.val) * 3 + j.val) * 784 + (h.val * 28 + w.val)
      omega)
  rw [e1, e2, e3, copies_first_real _ hx]
  have h1 : (i.val * 3 + j.val) / 3 = i.val := by omega
  have h2 : (i.val * 3 + j.val) % 3 = j.val := by omega
  simp only [h1, h2]

end Cert.ReferenceIdeal.Math

end
-- ==== Proof.RefWeights.lean ====
/- The weights of the reference's two linear interpolations: each is a hat function of the distance between the place of the
   output and the place of the input, divided by the sum of the hats over the inputs. -/
module

public import proofs.«01_k».proof.Proof.Gen.ReferenceIdeal.Read
public import proofs.«01_k».proof.Proof.RealSums
public import Idealize.ShloMosaic.Lib.Pointwise

@[expose] public section

set_option maxRecDepth 16384

noncomputable section

namespace Cert.Spec

open Finset

/-- The hat at input `i` of output `o`, in units of `1 / D` : `D` less the distance between `2 o − e` and `D i`, or nothing. -/
def tent (D e : ℤ) (o i : ℕ) : ℤ := max 0 (D - |2 * (o : ℤ) - e - D * (i : ℤ)|)

/-- The hats of output `o` over `n` inputs, together. -/
def total (D e : ℤ) (n o : ℕ) : ℤ := ∑ i ∈ range n, tent D e o i

/-- The interpolation weight of input `i` for output `o`. -/
def wt (D e : ℤ) (n o i : ℕ) : ℝ := (tent D e o i : ℝ) / (total D e n o : ℝ)

/-- The hat over the reals. -/
theorem tent_real (D e : ℤ) (hD : 0 < D) (o i : ℕ) (s : ℝ) (hs : (D : ℝ) * s = 2 * o - e) :
    max 0 (1 - |s - i|) = (tent D e o i : ℝ) / D := by
  have hD' : (0 : ℝ) < D := by exact_mod_cast hD
  unfold tent
  push_cast
  rw [eq_div_iff hD'.ne', max_mul_of_nonneg _ _ hD'.le, zero_mul, sub_mul, one_mul]
  congr 2
  rw [← abs_of_pos hD', ← abs_mul, abs_of_pos hD']
  congr 1
  rw [← hs]; ring

/-- The 28 outputs over 14 inputs all have hats. -/
theorem total14_pos : ∀ o < 28, 0 < total 4 1 14 o := by decide +kernel

/-- The 224 outputs over 28 inputs all have hats. -/
theorem total28_pos : ∀ o < 224, 0 < total 16 7 28 o := by decide +kernel

end Cert.Spec

namespace Cert.ReferenceIdeal.Math

open Idealize.ShloMosaic Cert.ReferenceIdeal.Read Cert.ReferenceIdeal Cert.Spec

/-- The constant one half. -/
theorem word_half : Ideal.ofBits .f32 1056964608#32 = ((1 / 2 : ℝ) : EReal) := by
  simp [Ideal.ofBits, Ideal.ieee, -EReal.coe_mul]; norm_num

/-- The constant one eighth. -/
theorem word_eighth : Ideal.ofBits .f32 1040187392#32 = ((1 / 8 : ℝ) : EReal) := by
  simp [Ideal.ofBits, Ideal.ieee, -EReal.coe_mul]; norm_num

/-- The constant minus one half. -/
theorem word_neg_half : Ideal.ofBits .f32 3204448256#32 = ((-1 / 2 : ℝ) : EReal) := by
  simp [Ideal.ofBits, Ideal.ieee, -EReal.coe_mul]
  rw [← EReal.coe_neg]; norm_num

/-- The constant thirteen and a half. -/
theorem word_hi14 : Ideal.ofBits .f32 1096286208#32 = ((27 / 2 : ℝ) : EReal) := by
  simp [Ideal.ofBits, Ideal.ieee, -EReal.coe_mul]; norm_num

/-- The constant twenty-seven and a half. -/
theorem word_hi28 : Ideal.ofBits .f32 1104936960#32 = ((55 / 2 : ℝ) : EReal) := by
  simp [Ideal.ofBits, Ideal.ieee, -EReal.coe_mul]; norm_num

/-- The constant against which the sum of the hats is tried. -/
theorem word_eps : Ideal.ofBits .f32 955908096#32 = ((125 / 1048576 : ℝ) : EReal) := by
  simp [Ideal.ofBits, Ideal.ieee, -EReal.coe_mul]; norm_num

/-- A hat divided by the sum of the hats, the sum tried against a small constant and the place against its bounds. -/
theorem weight_of (D e : ℤ) (hD : 0 < D) (hD' : D ≤ 16) (n o i : ℕ) (ht : 0 < total D e n o) (s lo hi : ℝ) (h1 : lo ≤ s) (h2 : s ≤ hi) :
    Scalar.select
      (IntOp.andi (BitVec.ofBool (decide ((lo : EReal) ≤ (s : EReal)))) (BitVec.ofBool (decide ((s : EReal) ≤ (hi : EReal)))))
      (if ((125 / 1048576 : ℝ) : EReal) < FloatOps.absf (F := Ideal) (φ := .f32) (((total D e n o : ℝ) / D : ℝ) : EReal) then
        Ideal.div (((tent D e o i : ℝ) / D : ℝ) : EReal)
          (if (((total D e n o : ℝ) / D : ℝ) : EReal) ≠ 0 then (((total D e n o : ℝ) / D : ℝ) : EReal) else 1)
      else (0 : EReal)) (0 : EReal) = ((wt D e n o i : ℝ) : EReal) := by
  have hDr : (0 : ℝ) < D := by exact_mod_cast hD
  have hD16 : (D : ℝ) ≤ 16 := by exact_mod_cast hD'
  have htr : (1 : ℝ) ≤ total D e n o := by exact_mod_cast ht
  have hq : (1 / 16 : ℝ) ≤ (total D e n o : ℝ) / D := by
    rw [div_le_div_iff₀ (by norm_num) hDr]; linarith
  rw [absf_coe, abs_of_pos (by linarith), if_pos (EReal.coe_lt_coe_iff.2 (by linarith)), if_pos (EReal.coe_ne_zero.2 (by linarith)),
    decide_eq_true (by exact_mod_cast h1), decide_eq_true (by exact_mod_cast h2), Ideal.div_coe (by linarith)]
  change (((tent D e o i : ℝ) / D : ℝ) : EReal) * ((1 / ((total D e n o : ℝ) / D) : ℝ) : EReal) = _
  rw [← EReal.coe_mul]
  congr 1
  unfold wt
  field_simp

/-- The place of output `h`, among 14 inputs. -/
theorem place14 (h : Fin 28) : val_main_v56 (F := Ideal) (ix1 h) = (((h.val : ℝ) + 1 / 2) * (1 / 2) - 1 / 2 : ℝ) := by
  pointwise [val_main_v56, val_main_v55, val_main_v54, val_main_v53, val_main_v52, val_main_v51, val_main_v50, val_main_v49, val_main_v48, val_main_v47, val_main_cst_5, val_main_cst_4, val_main_cst_3, val_main_cst_2, val_main_cst_1, val_main_cst]
  rw [sitofp_word _ (by omega)]
  simp only [word_half, ← EReal.coe_add, ← EReal.coe_mul, ← EReal.coe_sub]

/-- The stretch of the hats is one. -/
theorem stretch14 : val_main_v47 (F := Ideal) ix0 = ((1 : ℝ) : EReal) := by
  pointwise [val_main_v47, val_main_cst_1, val_main_cst]
  rw [word_half]
  exact max_eq_right (EReal.coe_le_coe_iff.2 (by norm_num))

/-- The hat of input `i` at output `h`, among 14 inputs. -/
theorem hat14 (i : Fin 14) (h : Fin 28) : val_main_v71 (F := Ideal) (ix2 i h) = (((tent 4 1 h.val i.val : ℝ) / ((4 : ℤ) : ℝ) : ℝ) : EReal) := by
  rw [← tent_real 4 1 (by norm_num) h.val i.val (((h.val : ℝ) + 1 / 2) * (1 / 2) - 1 / 2) (by push_cast; ring)]
  have hp := place14 h
  pointwise [val_main_v71, val_main_v70, val_main_v69, val_main_v68, val_main_v67, val_main_v66, val_main_v65, val_main_v64, val_main_v63, val_main_v62, val_main_v61, val_main_v60, val_main_v59, val_main_v58, val_main_v57, val_main_cst_7, val_main_cst_6, val_main_cst_5, val_main_cst_4]
  rw [hp, sitofp_word _ (by omega)]
  simp only [id, stretch14, ← EReal.coe_sub, absf_coe]
  rw [Ideal.div_coe one_ne_zero, ← EReal.coe_mul, absf_coe, one_div_one, mul_one, abs_abs]
  exact (EReal.coe_strictMono.monotone.map_max).symm

/-- The weight of input `i` for output `h`, among 14 inputs. -/
theorem weight14 (i : Fin 14) (h : Fin 28) : val_main_v94 (F := Ideal) (ix2 i h) = ((wt 4 1 14 h.val i.val : ℝ) : EReal) := by
  have hp := place14 h
  have hs : ∑ x : Fin 14, (((tent 4 1 h.val x.val : ℝ) / ((4 : ℤ) : ℝ) : ℝ) : EReal) = (((total 4 1 14 h.val : ℝ) / ((4 : ℤ) : ℝ) : ℝ) : EReal) := by
    rw [coe_sum, ← Finset.sum_div]
    congr 2
    unfold total
    push_cast
    exact (Finset.sum_range (fun k => (tent 4 1 h.val k : ℝ))).symm
  pointwise [val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_cst_15, val_main_cst_14, val_main_cst_13, val_main_cst_12, val_main_cst_11, val_main_cst_10, val_main_cst_9, val_main_cst_8]
  simp only [hat14, hs, hp, word_neg_half, word_hi14, word_eps]
  have hh : (h.val : ℝ) ≤ 27 := by exact_mod_cast Nat.le_of_lt_succ h.isLt
  have h0 : (0 : ℝ) ≤ h.val := Nat.cast_nonneg _
  exact weight_of 4 1 (by norm_num) (by norm_num) 14 h.val i.val (total14_pos _ h.isLt) _ _ _ (by linarith) (by linarith)

/-- The two tables of 14 inputs are one. -/
theorem table14 : val_main_v142 (F := Ideal) = val_main_v94 := rfl

/-- The place of output `h`, among 28 inputs. -/
theorem place28 (h : Fin 224) : val_main_v254 (F := Ideal) (ix1 h) = (((h.val : ℝ) + 1 / 2) * (1 / 8) - 1 / 2 : ℝ) := by
  pointwise [val_main_v254, val_main_v253, val_main_v252, val_main_v251, val_main_v250, val_main_v249, val_main_v248, val_main_v247, val_main_v246, val_main_v245, val_main_cst_66, val_main_cst_65, val_main_cst_64, val_main_cst_63, val_main_cst_62, val_main_cst_61]
  rw [sitofp_word _ (by omega)]
  simp only [word_half, word_eighth, ← EReal.coe_add, ← EReal.coe_mul, ← EReal.coe_sub]

/-- The stretch of the hats is one. -/
theorem stretch28 : val_main_v245 (F := Ideal) ix0 = ((1 : ℝ) : EReal) := by
  pointwise [val_main_v245, val_main_cst_62, val_main_cst_61]
  rw [word_eighth]
  exact max_eq_right (EReal.coe_le_coe_iff.2 (by norm_num))

/-- The hat of input `i` at output `h`, among 28 inputs. -/
theorem hat28 (i : Fin 28) (h : Fin 224) : val_main_v269 (F := Ideal) (ix2 i h) = (((tent 16 7 h.val i.val : ℝ) / ((16 : ℤ) : ℝ) : ℝ) : EReal) := by
  rw [← tent_real 16 7 (by norm_num) h.val i.val (((h.val : ℝ) + 1 / 2) * (1 / 8) - 1 / 2) (by push_cast; ring)]
  have hp := place28 h
  pointwise [val_main_v269, val_main_v268, val_main_v267, val_main_v266, val_main_v265, val_main_v264, val_main_v263, val_main_v262, val_main_v261, val_main_v260, val_main_v259, val_main_v258, val_main_v257, val_main_v256, val_main_v255, val_main_cst_68, val_main_cst_67, val_main_cst_66, val_main_cst_65]
  rw [hp, sitofp_word _ (by omega)]
  simp only [id, stretch28, ← EReal.coe_sub, absf_coe]
  rw [Ideal.div_coe one_ne_zero, ← EReal.coe_mul, absf_coe, one_div_one, mul_one, abs_abs]
  exact (EReal.coe_strictMono.monotone.map_max).symm

/-- The weight of input `i` for output `h`, among 28 inputs. -/
theorem weight28 (i : Fin 28) (h : Fin 224) : val_main_v292 (F := Ideal) (ix2 i h) = ((wt 16 7 28 h.val i.val : ℝ) : EReal) := by
  have hp := place28 h
  have hs : ∑ x : Fin 28, (((tent 16 7 h.val x.val : ℝ) / ((16 : ℤ) : ℝ) : ℝ) : EReal) = (((total 16 7 28 h.val : ℝ) / ((16 : ℤ) : ℝ) : ℝ) : EReal) := by
    rw [coe_sum, ← Finset.sum_div]
    congr 2
    unfold total
    push_cast
    exact (Finset.sum_range (fun k => (tent 16 7 h.val k : ℝ))).symm
  pointwise [val_main_v292, val_main_v291, val_main_v290, val_main_v289, val_main_v288, val_main_v287, val_main_v286, val_main_v285, val_main_v284, val_main_v283, val_main_v282, val_main_v281, val_main_v280, val_main_v279, val_main_v278, val_main_v277, val_main_v276, val_main_v275, val_main_v274, val_main_v273, val_main_v272, val_main_v271, val_main_v270, val_main_cst_76, val_main_cst_75, val_main_cst_74, val_main_cst_73, val_main_cst_72, val_main_cst_71, val_main_cst_70, val_main_cst_69]
  simp only [hat28, hs, hp, word_neg_half, word_hi28, word_eps]
  have hh : (h.val : ℝ) ≤ 223 := by exact_mod_cast Nat.le_of_lt_succ h.isLt
  have h0 : (0 : ℝ) ≤ h.val := Nat.cast_nonneg _
  exact weight_of 16 7 (by norm_num) (by norm_num) 28 h.val i.val (total28_pos _ h.isLt) _ _ _ (by linarith) (by linarith)

/-- The two tables of 28 inputs are one. -/
theorem table28 : val_main_v340 (F := Ideal) = val_main_v292 := rfl

end Cert.ReferenceIdeal.Math

end
-- ==== Proof.RefUnfold2.lean ====
/- What the reference's unfolding of the second feature map holds, interpolated onto the grid of the first. -/
module

public import proofs.«01_k».proof.Proof.Gen.ReferenceIdeal.Read
public import proofs.«01_k».proof.Proof.Maps
public import proofs.«01_k».proof.Proof.RefWeights
public import Idealize.ShloMosaic.Lib.Pointwise
public import Idealize.ShloMosaic.Lib.ValueIdxRank6

@[expose] public section

set_option maxRecDepth 16384

noncomputable section

namespace Cert.ReferenceIdeal.Math

open Idealize.ShloMosaic Cert.ReferenceIdeal.Read Cert.ReferenceIdeal Cert.Spec

/-- The padded second map at a place is the map one place up and left, zero on the margin. -/
theorem padded_second (x1 : (⟨S2x1024x14x14, .f32⟩ : BufTy).Contents (Elt Ideal)) (hx : Spec.Real x1) (b : Fin 2) (c : Fin 1024) (r s : Fin 16) :
    val_main_v22 (F := Ideal) x1 (ix4 b c r s) = ((at2 x1 b.val c.val ((r.val : ℤ) - 1) ((s.val : ℤ) - 1) : ℝ) : EReal) := by
  pointwise [val_main_v22, val_main_call1_v0, val_main_c_0]
  by_cases h : (1 ≤ r.val ∧ r.val - 1 < 14) ∧ 1 ≤ s.val ∧ s.val - 1 < 14
  · rw [dif_pos h, at2_in _ hx]
    congr 2 <;> (dsimp only; omega)
  · rw [dif_neg h]
    have e : at2 x1 b.val c.val ((r.val : ℤ) - 1) ((s.val : ℤ) - 1) = 0 := dif_neg (by omega)
    rw [e]
    exact (sitofp_word 0 (by norm_num)).trans (by norm_num)

/-- The nine shifted copies of the second map, at copy `k`. -/
theorem copies_second (x1 : (⟨S2x1024x14x14, .f32⟩ : BufTy).Contents (Elt Ideal)) (b : Fin 2) (c : Fin 1024) (k : Fin 9) (r s : Fin 14) :
    val_main_v41 (F := Ideal) x1 (ix5 b c k r s) = val_main_v22 (F := Ideal) x1 (ix4 b c ⟨k.val / 3 + r.val, by omega⟩ ⟨k.val % 3 + s.val, by omega⟩) :=
  match k with
  | ⟨0, _⟩ => by
    pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23]
  | ⟨1, _⟩ => by
    pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23]
  | ⟨2, _⟩ => by
    pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23]
  | ⟨3, _⟩ => by
    pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23]
  | ⟨4, _⟩ => by
    pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23]
  | ⟨5, _⟩ => by
    pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23]
  | ⟨6, _⟩ => by
    pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23]
  | ⟨7, _⟩ => by
    pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23]
  | ⟨8, _⟩ => by
    pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23]

/-- The nine shifted copies of the second map as real numbers. -/
theorem copies_second_real (x1 : (⟨S2x1024x14x14, .f32⟩ : BufTy).Contents (Elt Ideal)) (hx : Spec.Real x1) (b : Fin 2) (c : Fin 1024) (k : Fin 9) (r s : Fin 14) :
    val_main_v41 (F := Ideal) x1 (ix5 b c k r s)
      = ((at2 x1 b.val c.val ((r.val : ℤ) + (k.val / 3 : ℕ) - 1) ((s.val : ℤ) + (k.val % 3 : ℕ) - 1) : ℝ) : EReal) := by
  rw [copies_second, padded_second _ hx]
  congr 2 <;> push_cast <;> ring

/-- The copies laid out as one image per channel and shift. -/
theorem images_second (x1 : (⟨S2x1024x14x14, .f32⟩ : BufTy).Contents (Elt Ideal)) (hx : Spec.Real x1) (z : Fin 18432) (r s : Fin 14)
    (b : Fin 2) (c : Fin 1024) (i j : Fin 3) (hz : z.val = ((b.val * 1024 + c.val) * 3 + i.val) * 3 + j.val) :
    val_main_v46 (F := Ideal) x1 (ix3 z r s) = ((at2 x1 b.val c.val ((r.val : ℤ) + i.val - 1) ((s.val : ℤ) + j.val - 1) : ℝ) : EReal) := by
  have e1 : val_main_v46 (F := Ideal) x1 (ix3 z r s) = val_main_v45 (F := Ideal) x1 (ix6 b c i j r s) := by
    unfold val_main_v46
    generalize val_main_v45 (F := Ideal) x1 = y
    exact shapeCast_apply y _ _ _ (by
      rewrite [Shape.rowMajor_val_six, Shape.rowMajor_val_three]
      show ((((b.val * 1024 + c.val) * 3 + i.val) * 3 + j.val) * 14 + r.val) * 14 + s.val = (z.val * 14 + r.val) * 14 + s.val
      omega)
  have e2 : val_main_v45 (F := Ideal) x1 (ix6 b c i j r s) = val_main_v44 (F := Ideal) x1 (ix6 b r s c i j) := by
    unfold val_main_v45
    generalize val_main_v44 (F := Ideal) x1 = y
    exact transpose_apply [0, 3, 4, 5, 1, 2] y _ _ _ (fun a => match a with
      | ⟨0, _⟩ => rfl
      | ⟨1, _⟩ => rfl
      | ⟨2, _⟩ => rfl
      | ⟨3, _⟩ => rfl
      | ⟨4, _⟩ => rfl
      | ⟨5, _⟩ => rfl)
  have e3 : val_main_v44 (F := Ideal) x1 (ix6 b r s c i j) = val_main_v43 (F := Ideal) x1 (ix5 b ⟨r.val * 14 + s.val, by omega⟩ c i j) := by
    unfold val_main_v44
    generalize val_main_v43 (F := Ideal) x1 = y
    exact shapeCast_apply y _ _ _ (by
      rewrite [Shape.rowMajor_val_five, Shape.rowMajor_val_six]
      show (((b.val * 196 + (r.val * 14 + s.val)) * 1024 + c.val) * 3 + i.val) * 3 + j.val = ((((b.val * 14 + r.val) * 14 + s.val) * 1024 + c.val) * 3 + i.val) * 3 + j.val
      omega)
  have e4 : val_main_v43 (F := Ideal) x1 (ix5 b ⟨r.val * 14 + s.val, by omega⟩ c i j) = val_main_v42 (F := Ideal) x1 (ix5 b c i j ⟨r.val * 14 + s.val, by omega⟩) := by
    unfold val_main_v43
    generalize val_main_v42 (F := Ideal) x1 = y
    exact transpose_apply [0, 4, 1, 2, 3] y _ _ _ (fun a => match a with
      | ⟨0, _⟩ => rfl
      | ⟨1, _⟩ => rfl
      | ⟨2, _⟩ => rfl
      | ⟨3, _⟩ => rfl
      | ⟨4, _⟩ => rfl)
  have e5 : val_main_v42 (F := Ideal) x1 (ix5 b c i j ⟨r.val * 14 + s.val, by omega⟩) = val_main_v41 (F := Ideal) x1 (ix5 b c ⟨i.val * 3 + j.val, by omega⟩ r s) := by
    unfold val_main_v42
    generalize val_main_v41 (F := Ideal) x1 = y
    exact shapeCast_apply y _ _ _ (by
      rewrite [Shape.rowMajor_val_five, Shape.rowMajor_val_five]
      show (((b.val * 1024 + c.val) * 9 + (i.val * 3 + j.val)) * 14 + r.val) * 14 + s.val = (((b.val * 1024 + c.val) * 3 + i.val) * 3 + j.val) * 196 + (r.val * 14 + s.val)
      omega)
  rw [e1, e2, e3, e4, e5, copies_second_real _ hx]
  have h1 : (i.val * 3 + j.val) / 3 = i.val := by omega
  have h2 : (i.val * 3 + j.val) % 3 = j.val := by omega
  simp only [h1, h2]

/-- An image interpolated onto the grid of the first map. -/
theorem resized_second (x1 : (⟨S2x1024x14x14, .f32⟩ : BufTy).Contents (Elt Ideal)) (hx : Spec.Real x1) (z : Fin 18432) (h w : Fin 28)
    (b : Fin 2) (c : Fin 1024) (i j : Fin 3) (hz : z.val = ((b.val * 1024 + c.val) * 3 + i.val) * 3 + j.val) :
    val_main_v145 (F := Ideal) x1 (ix3 z h w) = ((∑ s ∈ Finset.range 14, (∑ r ∈ Finset.range 14,
      wt 4 1 14 h.val r * at2 x1 b.val c.val ((r : ℤ) + i.val - 1) ((s : ℤ) + j.val - 1)) * wt 4 1 14 w.val s : ℝ) : EReal) := by
  pointwise [val_main_v145, val_main_v144, val_main_v143]
  simp only [table14, weight14, images_second x1 hx z _ _ b c i j hz, ← EReal.coe_mul, coe_sum]
  rw [Finset.sum_range]
  congr 1

/-- The unfolded second map: row `b * 784 + h * 28 + w`, column `c * 9 + i * 3 + j`. -/
theorem flat_second (x1 : (⟨S2x1024x14x14, .f32⟩ : BufTy).Contents (Elt Ideal)) (hx : Spec.Real x1) (n : Fin 1568) (k : Fin 9216)
    (b : Fin 2) (h w : Fin 28) (c : Fin 1024) (i j : Fin 3) (hn : n.val = b.val * 784 + h.val * 28 + w.val) (hk : k.val = c.val * 9 + i.val * 3 + j.val) :
    val_main_v150 (F := Ideal) x1 (ix2 n k) = ((∑ s ∈ Finset.range 14, (∑ r ∈ Finset.range 14,
      wt 4 1 14 h.val r * at2 x1 b.val c.val ((r : ℤ) + i.val - 1) ((s : ℤ) + j.val - 1)) * wt 4 1 14 w.val s : ℝ) : EReal) := by
  have e1 : val_main_v150 (F := Ideal) x1 (ix2 n k) = val_main_v148 (F := Ideal) x1 (ix5 b ⟨h.val * 28 + w.val, by omega⟩ c i j) := by
    unfold val_main_v150
    generalize val_main_v148 (F := Ideal) x1 = y
    exact shapeCast_apply y _ _ _ (by
      rewrite [Shape.rowMajor_val_five, Shape.rowMajor_val_two]
      show (((b.val * 784 + (h.val * 28 + w.val)) * 1024 + c.val) * 3 + i.val) * 3 + j.val = n.val * 9216 + k.val
      omega)
  have e2 : val_main_v148 (F := Ideal) x1 (ix5 b ⟨h.val * 28 + w.val, by omega⟩ c i j) = val_main_v147 (F := Ideal) x1 (ix6 b h w c i j) := by
    unfold val_main_v148
    generalize val_main_v147 (F := Ideal) x1 = y
    exact shapeCast_apply y _ _ _ (by
      rewrite [Shape.rowMajor_val_six, Shape.rowMajor_val_five]
      show ((((b.val * 28 + h.val) * 28 + w.val) * 1024 + c.val) * 3 + i.val) * 3 + j.val = (((b.val * 784 + (h.val * 28 + w.val)) * 1024 + c.val) * 3 + i.val) * 3 + j.val
      omega)
  have e3 : val_main_v147 (F := Ideal) x1 (ix6 b h w c i j) = val_main_v146 (F := Ideal) x1 (ix6 b c i j h w) := by
    unfold val_main_v147
    generalize val_main_v146 (F := Ideal) x1 = y
    exact transpose_apply [0, 4, 5, 1, 2, 3] y _ _ _ (fun a => match a with
      | ⟨0, _⟩ => rfl
      | ⟨1, _⟩ => rfl
      | ⟨2, _⟩ => rfl
      | ⟨3, _⟩ => rfl
      | ⟨4, _⟩ => rfl
      | ⟨5, _⟩ => rfl)
  have e4 : val_main_v146 (F := Ideal) x1 (ix6 b c i j h w) = val_main_v145 (F := Ideal) x1 (ix3 ⟨((b.val * 1024 + c.val) * 3 + i.val) * 3 + j.val, by omega⟩ h w) := by
    unfold val_main_v146
    generalize val_main_v145 (F := Ideal) x1 = y
    exact shapeCast_apply y _ _ _ (by
      rewrite [Shape.rowMajor_val_three, Shape.rowMajor_val_six]
      show ((((b.val * 1024 + c.val) * 3 + i.val) * 3 + j.val) * 28 + h.val) * 28 + w.val = ((((b.val * 1024 + c.val) * 3 + i.val) * 3 + j.val) * 28 + h.val) * 28 + w.val
      rfl)
  rw [e1, e2, e3, e4]
  exact resized_second x1 hx _ h w b c i j rfl

end Cert.ReferenceIdeal.Math

end
-- ==== Proof.RefEmbed.lean ====
/- What the reference's embedding holds: each entry averages sixteen averages of an unfolded map. -/
module

public import proofs.«01_k».proof.Proof.Gen.ReferenceIdeal.Read
public import proofs.«01_k».proof.Proof.RefPools
public import proofs.«01_k».proof.Proof.RefUnfold1
public import proofs.«01_k».proof.Proof.RefUnfold2

@[expose] public section

set_option maxRecDepth 16384

noncomputable section

namespace Cert.ReferenceIdeal.Math

open Idealize.ShloMosaic Cert.ReferenceIdeal.Read Cert.ReferenceIdeal Cert.Spec

/-- The unfolded first map at patch `(b, h, w)` and column `k`. -/
def flat1 (x0 : (⟨S2x512x28x28, .f32⟩ : BufTy).Contents (Elt Ideal)) (b h w k : ℕ) : ℝ :=
  at1 x0 b (k / 9) ((h : ℤ) + (k / 3 % 3 : ℕ) - 1) ((w : ℤ) + (k % 3 : ℕ) - 1)

/-- The unfolded and interpolated second map at patch `(b, h, w)` and column `k`. -/
def flat2 (x1 : (⟨S2x1024x14x14, .f32⟩ : BufTy).Contents (Elt Ideal)) (b h w k : ℕ) : ℝ :=
  ∑ s ∈ Finset.range 14, (∑ r ∈ Finset.range 14,
    wt 4 1 14 h r * at2 x1 b (k / 9) ((r : ℤ) + (k / 3 % 3 : ℕ) - 1) ((s : ℤ) + (k % 3 : ℕ) - 1)) * wt 4 1 14 w s

/-- The 2048 averages of patch `(b, h, w)`. -/
def averages (x0 : (⟨S2x512x28x28, .f32⟩ : BufTy).Contents (Elt Ideal)) (x1 : (⟨S2x1024x14x14, .f32⟩ : BufTy).Contents (Elt Ideal))
    (b h w o : ℕ) : ℝ :=
  if o < 1024 then 1 / 5 * ∑ t ∈ Finset.range 5, flat1 x0 b h w (9 * o / 2 + t)
  else 1 / 9 * ∑ t ∈ Finset.range 9, flat2 x1 b h w (9 * (o - 1024) + t)

/-- The embedding of patch `(b, h, w)`. -/
def embed (x0 : (⟨S2x512x28x28, .f32⟩ : BufTy).Contents (Elt Ideal)) (x1 : (⟨S2x1024x14x14, .f32⟩ : BufTy).Contents (Elt Ideal))
    (b h w d : ℕ) : ℝ :=
  1 / 16 * ∑ t ∈ Finset.range 16, averages x0 x1 b h w (16 * d + t)

variable (x0 : (⟨S2x512x28x28, .f32⟩ : BufTy).Contents (Elt Ideal)) (x1 : (⟨S2x1024x14x14, .f32⟩ : BufTy).Contents (Elt Ideal))

/-- The first 1024 averages. -/
theorem averages_first (h0 : Spec.Real x0) (n : Fin 1568) (o : Fin 1024) (b : Fin 2) (h w : Fin 28) (hn : n.val = b.val * 784 + h.val * 28 + w.val) :
    val_main_v196 (F := Ideal) x0 (ix2 n o) = ((1 / 5 * ∑ t ∈ Finset.range 5, flat1 x0 b.val h.val w.val (9 * o.val / 2 + t) : ℝ) : EReal) := by
  pointwise [val_main_v196, val_main_v195]
  have e : ∀ k : Fin 4608, val_main_v149 (F := Ideal) x0 (ix2 n k) = ((flat1 x0 b.val h.val w.val k.val : ℝ) : EReal) := fun k =>
    flat_first x0 h0 n k b h w ⟨k.val / 9, by omega⟩ ⟨k.val / 3 % 3, by omega⟩ ⟨k.val % 3, by omega⟩ hn (by dsimp only; omega)
  simp only [e, pool_first, ← EReal.coe_mul, coe_sum]
  rw [← window_sum 4608 (9 * o.val / 2) 5 (by omega) (flat1 x0 b.val h.val w.val) (1 / 5), Finset.sum_range]

/-- The second 1024 averages. -/
theorem averages_second (h1 : Spec.Real x1) (n : Fin 1568) (o : Fin 1024) (b : Fin 2) (h w : Fin 28) (hn : n.val = b.val * 784 + h.val * 28 + w.val) :
    val_main_v198 (F := Ideal) x1 (ix2 n o) = ((1 / 9 * ∑ t ∈ Finset.range 9, flat2 x1 b.val h.val w.val (9 * o.val + t) : ℝ) : EReal) := by
  pointwise [val_main_v198, val_main_v197]
  have e : ∀ k : Fin 9216, val_main_v150 (F := Ideal) x1 (ix2 n k) = ((flat2 x1 b.val h.val w.val k.val : ℝ) : EReal) := fun k =>
    flat_second x1 h1 n k b h w ⟨k.val / 9, by omega⟩ ⟨k.val / 3 % 3, by omega⟩ ⟨k.val % 3, by omega⟩ hn (by dsimp only; omega)
  simp only [e, pool_second, ← EReal.coe_mul, coe_sum]
  rw [← window_sum 9216 (9 * o.val) 9 (by omega) (flat2 x1 b.val h.val w.val) (1 / 9), Finset.sum_range]

/-- The two rows of averages side by side. -/
theorem averages_apply (h0 : Spec.Real x0) (h1 : Spec.Real x1) (n : Fin 1568) (o : Fin 2048) (b : Fin 2) (h w : Fin 28)
    (hn : n.val = b.val * 784 + h.val * 28 + w.val) :
    val_main_v202 (F := Ideal) x0 x1 (ix2 n o) = ((averages x0 x1 b.val h.val w.val o.val : ℝ) : EReal) := by
  have key : ∀ (u : Fin 2) (p : Fin 1024), o.val = u.val * 1024 + p.val →
      val_main_v202 (F := Ideal) x0 x1 (ix2 n o) = val_main_v201 (F := Ideal) x0 x1 (ix3 n u p) := fun u p hp => by
    unfold val_main_v202
    generalize val_main_v201 (F := Ideal) x0 x1 = y
    exact shapeCast_apply y _ _ _ (by
      rewrite [Shape.rowMajor_val_three, Shape.rowMajor_val_two]
      show (n.val * 2 + u.val) * 1024 + p.val = n.val * 2048 + o.val
      omega)
  unfold averages
  by_cases ho : o.val < 1024
  · rw [if_pos ho, key 0 ⟨o.val, ho⟩ (by simp), ← averages_first x0 h0 n ⟨o.val, ho⟩ b h w hn]
    pointwise [val_main_v201, val_main_v200, val_main_v199]
  · rw [if_neg ho, key 1 ⟨o.val - 1024, by omega⟩ (by simp; omega), ← averages_second x1 h1 n ⟨o.val - 1024, by omega⟩ b h w hn]
    pointwise [val_main_v201, val_main_v200, val_main_v199]

/-- The embedding as the reference computes it. -/
theorem embed_apply (h0 : Spec.Real x0) (h1 : Spec.Real x1) (n : Fin 1568) (d : Fin 128) (b : Fin 2) (h w : Fin 28)
    (hn : n.val = b.val * 784 + h.val * 28 + w.val) :
    val_main_v226 (F := Ideal) x0 x1 (ix2 n d) = ((embed x0 x1 b.val h.val w.val d.val : ℝ) : EReal) := by
  pointwise [val_main_v226, val_main_v225]
  simp only [averages_apply x0 x1 h0 h1 n _ b h w hn, pool_last, ← EReal.coe_mul, coe_sum]
  unfold embed
  rw [← window_sum 2048 (16 * d.val) 16 (by omega) (averages x0 x1 b.val h.val w.val) (1 / 16), Finset.sum_range]

end Cert.ReferenceIdeal.Math

end
-- ==== Proof.RefScores.lean ====
/- What the reference's results hold: the score of a patch is its least squared distance to the bank, the score of an image
   the greatest of its patches', and the masks interpolate the scores. -/
module

public import proofs.«01_k».proof.Proof.Gen.ReferenceIdeal.Read
public import proofs.«01_k».proof.Proof.RefEmbed

@[expose] public section

set_option maxRecDepth 16384

noncomputable section

namespace Cert.ReferenceIdeal.Math

open Idealize.ShloMosaic Cert.ReferenceIdeal.Read Cert.ReferenceIdeal Cert.Spec

variable (x0 : (⟨S2x512x28x28, .f32⟩ : BufTy).Contents (Elt Ideal)) (x1 : (⟨S2x1024x14x14, .f32⟩ : BufTy).Contents (Elt Ideal))
  (x2 : (⟨S100000x128, .f32⟩ : BufTy).Contents (Elt Ideal))

/-- The squared distance of patch `(b, h, w)` to row `k` of the bank, expanded. -/
def dist (b h w k : ℕ) : ℝ :=
  (∑ d ∈ Finset.range 128, embed x0 x1 b h w d * embed x0 x1 b h w d + ∑ d ∈ Finset.range 128, atM x2 k d * atM x2 k d)
    - 2 * ∑ d ∈ Finset.range 128, embed x0 x1 b h w d * atM x2 k d

/-- The constant two. -/
theorem word_two : Ideal.ofBits .f32 1073741824#32 = ((2 : ℝ) : EReal) := by
  simp [Ideal.ofBits, Ideal.ieee, -EReal.coe_mul]; norm_num

/-- The constant positive infinity. -/
theorem word_top : Ideal.ofBits .f32 2139095040#32 = ⊤ := by
  simp [Ideal.ofBits, Ideal.ieee]

/-- The constant negative infinity. -/
theorem word_bot : Ideal.ofBits .f32 4286578688#32 = ⊥ := by
  simp [Ideal.ofBits, Ideal.ieee]

/-- The score of a patch is the least of its distances to the bank. -/
theorem score_least (h0 : Spec.Real x0) (h1 : Spec.Real x1) (h2 : Spec.Real x2) (n : Fin 1568) (b : Fin 2) (h w : Fin 28)
    (hn : n.val = b.val * 784 + h.val * 28 + w.val) :
    Least 100000 (fun k => ((dist x0 x1 x2 b.val h.val w.val k : ℝ) : EReal)) (val_main_v241 (F := Ideal) x0 x1 x2 (ix1 n)) := by
  have e : ∀ A : EReal, val_main_v241 (F := Ideal) x0 x1 x2 (ix1 n) = A → Least 100000 (fun k => ((dist x0 x1 x2 b.val h.val w.val k : ℝ) : EReal)) A →
    Least 100000 (fun k => ((dist x0 x1 x2 b.val h.val w.val k : ℝ) : EReal)) (val_main_v241 (F := Ideal) x0 x1 x2 (ix1 n)) := fun A hA hL => hA ▸ hL
  refine e _ (by
    pointwise [val_main_v241, val_main_v240, val_main_v239, val_main_v238, val_main_v237, val_main_v236, val_main_v235, val_main_v234, val_main_v233, val_main_v232, val_main_v231, val_main_v230, val_main_v229, val_main_v228, val_main_v227, val_main_cst_56, val_main_cst_57, val_main_cst_58, val_main_cst_59]
    rfl) ?_
  simp only [embed_apply x0 x1 h0 h1 n _ b h w hn, atM_in x2 h2, word_two, word_top, ← EReal.coe_mul, coe_sum, ← EReal.coe_add, ← EReal.coe_sub]
  refine least_fold _ _ fun k hk => ?_
  unfold dist
  simp only [Finset.sum_range]

/-- The score of an image lies below a bound when the scores of all its patches do. -/
theorem image_le (b : Fin 2) (z : EReal) :
    val_main_v243 (F := Ideal) x0 x1 x2 (ix1 b) ≤ z ↔ ∀ (h w : Fin 28), val_main_v241 (F := Ideal) x0 x1 x2 (ix1 ⟨b.val * 784 + h.val * 28 + w.val, by omega⟩) ≤ z := by
  have e : ∀ A : EReal, val_main_v243 (F := Ideal) x0 x1 x2 (ix1 b) = A → (A ≤ z ↔ ∀ (h w : Fin 28), val_main_v241 (F := Ideal) x0 x1 x2 (ix1 ⟨b.val * 784 + h.val * 28 + w.val, by omega⟩) ≤ z) →
    (val_main_v243 (F := Ideal) x0 x1 x2 (ix1 b) ≤ z ↔ ∀ (h w : Fin 28), val_main_v241 (F := Ideal) x0 x1 x2 (ix1 ⟨b.val * 784 + h.val * 28 + w.val, by omega⟩) ≤ z) := fun A hA hL => hA ▸ hL
  refine e _ (by
    pointwise [val_main_v243, val_main_v242, val_main_cst_60]
    rfl) ?_
  rw [word_bot, Finset.fold_max_le]
  constructor
  · rintro ⟨-, hz⟩ h w
    have := hz ⟨h.val * 28 + w.val, by omega⟩ (Finset.mem_univ _)
    simpa only [Nat.add_assoc] using this
  · intro hz
    refine ⟨bot_le, fun x _ => ?_⟩
    have := hz ⟨x.val / 28, by omega⟩ ⟨x.val % 28, by omega⟩
    have ex : b.val * 784 + x.val / 28 * 28 + x.val % 28 = b.val * 784 + x.val := by omega
    simpa only [ex] using this

/-- The masks interpolate the scores along the rows and then along the columns. -/
theorem mask_apply (b : Fin 2) (r s : Fin 224) :
    val_main_v343 (F := Ideal) x0 x1 x2 (ix3 b r s) = ∑ x : Fin 28, (∑ y : Fin 28, ((wt 16 7 28 r.val y.val : ℝ) : EReal)
      * val_main_v241 (F := Ideal) x0 x1 x2 (ix1 ⟨b.val * 784 + y.val * 28 + x.val, by omega⟩)) * ((wt 16 7 28 s.val x.val : ℝ) : EReal) := by
  pointwise [val_main_v343, val_main_v342, val_main_v341, val_main_v244]
  simp only [table28, weight28]

end Cert.ReferenceIdeal.Math

end
-- ==== Proof.KernelWords.lean ====
/- The words of the kernel's four literal tables, as functions of row and column: the band of neighbours, the identity, the interpolation weights of the second
   map summed over neighbours, and the interpolation weights of the masks. -/
module

public import proofs.«01_k».proof.Proof.Gen.KernelIdeal
public import proofs.«01_k».proof.Proof.RefWeights
public import Idealize.ShloMosaic.Lib.Pointwise

@[expose] public section

set_option maxRecDepth 16384

noncomputable section

namespace Cert.Spec

open Finset

/-- The weights of output `o` over the inputs at most one from `i`, together, in units of `1 / D`. -/
def spread (D e : ℤ) (n o i : ℕ) : ℤ := ∑ k ∈ range n, if near i k then tent D e o k else 0

/-- The weights of output `o` over the inputs at most one from `i`, together. -/
def nearWt (o i : ℕ) : ℝ := ∑ k ∈ range 14, if near i k then wt 4 1 14 o k else 0

/-- The same as a quotient of integers. -/
theorem nearWt_eq (o i : ℕ) : nearWt o i = (spread 4 1 14 o i : ℝ) / (total 4 1 14 o : ℝ) := by
  unfold nearWt spread
  push_cast
  rw [Finset.sum_div]
  refine Finset.sum_congr rfl fun k _ => ?_
  by_cases h : near i k
  · rw [if_pos h, if_pos h]; rfl
  · rw [if_neg h, if_neg h, zero_div]

/-- The sum of the hats of output `o` over the 28 inputs. -/
def total28 (o : ℕ) : ℤ := if o < 4 then 9 + 2 * o else if 220 ≤ o then 15 - 2 * (o - 220) else 16

theorem total28_eq : ∀ o < 224, total 16 7 28 o = total28 o := by decide +kernel

end Cert.Spec

namespace Cert.KernelIdeal.Math

open Idealize.ShloMosaic Cert.KernelIdeal Cert.Spec

/-- The word of `k` quarters. -/
def quarter (k : ℤ) : BitVec 32 :=
  if k = 0 then 0x00000000#32 else if k = 1 then 0x3E800000#32 else if k = 2 then 0x3F000000#32 else if k = 3 then 0x3F400000#32 else 0x3F800000#32

/-- The word of `k` sixteenths, for nothing, an odd number of them or all sixteen. -/
def sixteenth (k : ℤ) : BitVec 32 :=
  if k = 0 then 0x00000000#32 else if k = 1 then 0x3D800000#32 else if k = 3 then 0x3E400000#32 else if k = 5 then 0x3EA00000#32
  else if k = 7 then 0x3EE00000#32 else if k = 9 then 0x3F100000#32 else if k = 11 then 0x3F300000#32 else if k = 13 then 0x3F500000#32
  else if k = 15 then 0x3F700000#32 else 0x3F800000#32

/-- The word of one. -/
theorem word_one : Ideal.ofBits .f32 0x3F800000#32 = ((1 : ℝ) : EReal) := Ideal.ofBits_one_f32

/-- The word of zero. -/
theorem word_zero : Ideal.ofBits .f32 0x00000000#32 = ((0 : ℝ) : EReal) := Ideal.ofBits_zero_f32

theorem quarter_real (k : ℤ) (h0 : 0 ≤ k) (h4 : k ≤ 4) : Ideal.ofBits .f32 (quarter k) = (((k : ℝ) / 4 : ℝ) : EReal) := by
  unfold quarter
  interval_cases k
  · exact word_zero.trans (by norm_num)
  all_goals (simp [Ideal.ofBits, Ideal.ieee, -EReal.coe_mul]; norm_num)

theorem sixteenth_real (k : ℤ) (h : k ∈ [0, 1, 3, 5, 7, 9, 11, 13, 15, 16]) : Ideal.ofBits .f32 (sixteenth k) = (((k : ℝ) / 16 : ℝ) : EReal) := by
  unfold sixteenth
  simp only [List.mem_cons, List.not_mem_nil, or_false] at h
  rcases h with rfl | rfl | rfl | rfl | rfl | rfl | rfl | rfl | rfl | rfl
  · exact word_zero.trans (by norm_num)
  all_goals (simp [Ideal.ofBits, Ideal.ieee, -EReal.coe_mul]; norm_num)

theorem words_band : ∀ k : Fin 784, lit0 k = if near (k.val / 28) (k.val % 28) then 0x3F800000#32 else 0x00000000#32 := by decide +kernel
theorem words_eye : ∀ k : Fin 784, lit1 k = if k.val / 28 = k.val % 28 then 0x3F800000#32 else 0x00000000#32 := by decide +kernel
theorem words_spread : ∀ k : Fin 392, lit2 k = quarter (4 * spread 4 1 14 (k.val / 14) (k.val % 14) / total 4 1 14 (k.val / 14))
    ∧ 4 * spread 4 1 14 (k.val / 14) (k.val % 14) / total 4 1 14 (k.val / 14) * total 4 1 14 (k.val / 14) = 4 * spread 4 1 14 (k.val / 14) (k.val % 14)
    ∧ 0 ≤ 4 * spread 4 1 14 (k.val / 14) (k.val % 14) / total 4 1 14 (k.val / 14)
    ∧ 4 * spread 4 1 14 (k.val / 14) (k.val % 14) / total 4 1 14 (k.val / 14) ≤ 4 := by decide +kernel
theorem words_masks : ∀ k : Fin 6272, lit3 k = sixteenth (16 * tent 16 7 (k.val / 28) (k.val % 28) / total28 (k.val / 28))
    ∧ 16 * tent 16 7 (k.val / 28) (k.val % 28) / total28 (k.val / 28) * total28 (k.val / 28) = 16 * tent 16 7 (k.val / 28) (k.val % 28)
    ∧ 16 * tent 16 7 (k.val / 28) (k.val % 28) / total28 (k.val / 28) ∈ [(0 : ℤ), 1, 3, 5, 7, 9, 11, 13, 15, 16] := by decide +kernel

end Cert.KernelIdeal.Math

end
-- ==== Proof.KernelTables.lean ====
/- What the kernel's four literal tables hold: the band of neighbours, the identity, the interpolation weights of the second
   map summed over neighbours, and the interpolation weights of the masks. -/
module

public import proofs.«01_k».proof.Proof.KernelWords
public import Idealize.ShloMosaic.Lib.Pointwise

@[expose] public section

set_option maxRecDepth 16384

noncomputable section

namespace Cert.KernelIdeal.Math

open Idealize.ShloMosaic Cert.KernelIdeal Cert.Spec

/-- The band table: one where row and column are at most one apart. -/
theorem band_apply (a i : Fin 28) : Ideal.ofBits .f32 (lit0 (S28x28.rowMajor (ix2 a i))) = (((if near a.val i.val then 1 else 0 : ℝ)) : EReal) := by
  suffices key : ∀ k : Fin 784, k.val = a.val * 28 + i.val → Ideal.ofBits .f32 (lit0 k) = (((if near a.val i.val then 1 else 0 : ℝ)) : EReal) from
    key _ (Shape.rowMajor_val_two _)
  intro k h
  rw [words_band, h, show (a.val * 28 + i.val) / 28 = a.val by omega, show (a.val * 28 + i.val) % 28 = i.val by omega]
  by_cases c : near a.val i.val
  · rw [if_pos c, if_pos c, word_one]
  · rw [if_neg c, if_neg c, word_zero]

/-- The identity table. -/
theorem eye_apply (a i : Fin 28) : Ideal.ofBits .f32 (lit1 (S28x28.rowMajor (ix2 a i))) = (((if a.val = i.val then 1 else 0 : ℝ)) : EReal) := by
  suffices key : ∀ k : Fin 784, k.val = a.val * 28 + i.val → Ideal.ofBits .f32 (lit1 k) = (((if a.val = i.val then 1 else 0 : ℝ)) : EReal) from
    key _ (Shape.rowMajor_val_two _)
  intro k h
  rw [words_eye, h, show (a.val * 28 + i.val) / 28 = a.val by omega, show (a.val * 28 + i.val) % 28 = i.val by omega]
  by_cases c : a.val = i.val
  · rw [if_pos c, if_pos c, word_one]
  · rw [if_neg c, if_neg c, word_zero]

/-- The table of the second map: interpolation weights summed over neighbours. -/
theorem spread_apply (o : Fin 28) (i : Fin 14) : Ideal.ofBits .f32 (lit2 (S28x14.rowMajor (ix2 o i))) = ((nearWt o.val i.val : ℝ) : EReal) := by
  suffices key : ∀ k : Fin 392, k.val = o.val * 14 + i.val → Ideal.ofBits .f32 (lit2 k) = ((nearWt o.val i.val : ℝ) : EReal) from
    key _ (Shape.rowMajor_val_two _)
  intro k h
  obtain ⟨h1, h2, h3, h4⟩ := words_spread k
  rw [h, show (o.val * 14 + i.val) / 14 = o.val by omega, show (o.val * 14 + i.val) % 14 = i.val by omega] at h1 h2 h3 h4
  rw [h1, quarter_real _ h3 h4, nearWt_eq]
  congr 1
  have ht : (0 : ℝ) < total 4 1 14 o.val := by exact_mod_cast total14_pos _ o.isLt
  rw [div_eq_div_iff (by norm_num) ht.ne']
  have := congrArg (fun z : ℤ => (z : ℝ)) h2
  push_cast at this
  rw [this]; ring

/-- The table of the masks: interpolation weights. -/
theorem masks_apply (o : Fin 224) (i : Fin 28) : Ideal.ofBits .f32 (lit3 (S224x28.rowMajor (ix2 o i))) = ((wt 16 7 28 o.val i.val : ℝ) : EReal) := by
  suffices key : ∀ k : Fin 6272, k.val = o.val * 28 + i.val → Ideal.ofBits .f32 (lit3 k) = ((wt 16 7 28 o.val i.val : ℝ) : EReal) from
    key _ (Shape.rowMajor_val_two _)
  intro k h
  obtain ⟨h1, h2, h3⟩ := words_masks k
  rw [h, show (o.val * 28 + i.val) / 28 = o.val by omega, show (o.val * 28 + i.val) % 28 = i.val by omega, ← total28_eq _ o.isLt] at h1 h2 h3
  rw [h1, sixteenth_real _ h3]
  unfold wt
  congr 1
  have ht : (0 : ℝ) < total 16 7 28 o.val := by exact_mod_cast total28_pos _ o.isLt
  rw [div_eq_div_iff (by norm_num) ht.ne']
  have := congrArg (fun z : ℤ => (z : ℝ)) h2
  push_cast at this
  rw [this]; ring

end Cert.KernelIdeal.Math

end
-- ==== Proof.KernelEmbed.lean ====
/- The kernel's embedding read at an index: what the query scratch and the scratch of squared norms hold, as real sums over the
   two feature maps. -/
module

public import proofs.«01_k».proof.Proof.IdealBody
public import proofs.«01_k».proof.Proof.KernelTables
public import proofs.«01_k».proof.Proof.Maps
public import Idealize.ShloMosaic.Lib.Pipeline.ValueKit

@[expose] public section

set_option maxRecDepth 16384

noncomputable section

namespace Cert.KernelIdeal.Math

open Idealize.ShloMosaic Cert.KernelIdeal Cert.KernelIdeal.Gen Cert.KernelIdeal.Run Cert.Spec Finset
open Idealize.ShloMosaic.TcCoe

/-- The first stencil matrix: neighbours in row and column, and the pixel itself once more. -/
def stencil1 (p q : ℕ) : ℝ :=
  if p < 784 ∧ q < 784 then
    (if near (q % 28) (p / 28) then 1 else 0) * (if near (q / 28) (p % 28) then 1 else 0)
      + (if q % 28 = p / 28 then 1 else 0) * (if q / 28 = p % 28 then 1 else 0) else 0

/-- The second stencil matrix: interpolation weights summed over neighbours, in row and column. -/
def stencil2 (p q : ℕ) : ℝ := if p < 196 ∧ q < 784 then nearWt (q % 28) (p / 14) * nearWt (q / 28) (p % 14) else 0

/-- The first map in rows of flattened pixels, padded by zeros. -/
def rows1 (x0 : (⟨S2x512x28x28, .f32⟩ : BufTy).Contents (Elt Ideal)) (a s p : ℕ) : ℝ :=
  if p < 784 then at1 x0 (a / 64) (a % 64 * 8 + s) (p / 28 : ℕ) (p % 28 : ℕ) else 0

/-- The second map in rows of flattened pixels, padded by zeros. -/
def rows2 (x1 : (⟨S2x1024x14x14, .f32⟩ : BufTy).Contents (Elt Ideal)) (a s p : ℕ) : ℝ :=
  if p < 196 then at2 x1 (a / 64) (a % 64 * 16 + s) (p / 14 : ℕ) (p % 14 : ℕ) else 0

/-- The first half of the scaled embedding: eight channels summed, then the stencil. -/
def query1 (x0 : (⟨S2x512x28x28, .f32⟩ : BufTy).Contents (Elt Ideal)) (a q : ℕ) : ℝ :=
  ∑ p ∈ range 896, (∑ s ∈ range 8, rows1 x0 a s p) * (stencil1 p q * (-1 / 40))

/-- The second half of the scaled embedding: sixteen channels summed, then the stencil. -/
def query2 (x1 : (⟨S2x1024x14x14, .f32⟩ : BufTy).Contents (Elt Ideal)) (a q : ℕ) : ℝ :=
  ∑ p ∈ range 256, (∑ s ∈ range 16, rows2 x1 a s p) * (stencil2 p q * (-1 / 72))

theorem word_quarter : Ideal.ofBits .f32 0x3E800000#32 = ((1 / 4 : ℝ) : EReal) := by
  simp [Ideal.ofBits, Ideal.ieee, -EReal.coe_mul]; norm_num

theorem named_first : (Named.named (F := Ideal) κ "w1" (φ := .f32) 0xBCCCCCCD#32) = ((-1 / 40 : ℝ) : EReal) := rfl
theorem named_second : (Named.named (F := Ideal) κ "w2" (φ := .f32) 0xBC638E39#32) = ((-1 / 72 : ℝ) : EReal) := rfl

/-- The first product, at a row and a pixel. -/
theorem first_apply (x0 : (⟨S2x512x28x28, .f32⟩ : BufTy).Contents (Elt Ideal)) (y0 : Vec Ideal S128x8x896 .f32) (y2 : Vec Ideal S896x896 .f32)
    (h0 : ∀ a s p, y0 (ix3 a s p) = ((rows1 x0 a.val s.val p.val : ℝ) : EReal))
    (h2 : ∀ p q, y2 (ix2 p q) = ((stencil1 p.val q.val : ℝ) : EReal)) (a : Fin 128) (q : Fin 896) :
    k0_pay10 y0 y2 (ix2 a q) = ((query1 x0 a.val q.val : ℝ) : EReal) := by
  pointwise [k0_pay10]
  simp only [h0, h2, named_first, coe_sum, ← EReal.coe_mul]
  unfold query1
  rw [Finset.sum_range]
  simp only [Finset.sum_range]

/-- The second product, at a row and a pixel. -/
theorem second_apply (x1 : (⟨S2x1024x14x14, .f32⟩ : BufTy).Contents (Elt Ideal)) (y1 : Vec Ideal S128x16x256 .f32) (y3 : Vec Ideal S256x896 .f32)
    (h1 : ∀ a s p, y1 (ix3 a s p) = ((rows2 x1 a.val s.val p.val : ℝ) : EReal))
    (h3 : ∀ p q, y3 (ix2 p q) = ((stencil2 p.val q.val : ℝ) : EReal)) (a : Fin 128) (q : Fin 896) :
    k0_pay11 y1 y3 (ix2 a q) = ((query2 x1 a.val q.val : ℝ) : EReal) := by
  pointwise [k0_pay11]
  simp only [h1, h3, named_second, coe_sum, ← EReal.coe_mul]
  unfold query2
  rw [Finset.sum_range]
  simp only [Finset.sum_range]

/-- The scaled embedding of pixel `p` of batch `b`, component `d`. -/
def query (x0 : (⟨S2x512x28x28, .f32⟩ : BufTy).Contents (Elt Ideal)) (x1 : (⟨S2x1024x14x14, .f32⟩ : BufTy).Contents (Elt Ideal)) (b d p : ℕ) : ℝ :=
  if d < 64 then query1 x0 (b * 64 + d) p else query2 x1 (b * 64 + (d - 64)) p

section
variable (x0 : (⟨S2x512x28x28, .f32⟩ : BufTy).Contents (Elt Ideal)) (x1 : (⟨S2x1024x14x14, .f32⟩ : BufTy).Contents (Elt Ideal))
  (y0 : Vec Ideal S128x8x896 .f32) (y1 : Vec Ideal S128x16x256 .f32) (y2 : Vec Ideal S896x896 .f32) (y3 : Vec Ideal S256x896 .f32)
  (h0 : ∀ a s p, y0 (ix3 a s p) = ((rows1 x0 a.val s.val p.val : ℝ) : EReal))
  (h1 : ∀ a s p, y1 (ix3 a s p) = ((rows2 x1 a.val s.val p.val : ℝ) : EReal))
  (h2 : ∀ p q, y2 (ix2 p q) = ((stencil1 p.val q.val : ℝ) : EReal))
  (h3 : ∀ p q, y3 (ix2 p q) = ((stencil2 p.val q.val : ℝ) : EReal))
include h0 h1 h2 h3

/-- The query scratch at component `d` and column `n`. -/
theorem qt_apply (d : Fin 128) (n : Fin 1568) :
    qtOf y0 y1 y2 y3 (ix2 d n) = ((query x0 x1 (n.val / 784) d.val (n.val % 784) : ℝ) : EReal) := by
  unfold qtOf
  refine View.canon_eq_of_allAt _ _ _ (qt_cover y0 y1 y2 y3 _) ?_
  refine View.allAt_cons_unit _ _ _ _ _ ?_ (View.allAt_cons_unit _ _ _ _ _ ?_ (View.allAt_cons_unit _ _ _ _ _ ?_
    (View.allAt_cons_unit _ _ _ _ _ ?_ (View.allAt_nil _ _))))
  · intro x hx
    obtain ⟨r, p, rfl⟩ : ∃ r p, x = ix2 r p := ⟨_, _, eq_ix2 x⟩
    have e0 : d.val = 64 + r.val := hx 0
    have e1 : n.val = 784 + p.val := hx 1
    pointwise [k0_pay1, k0_pay15]
    rw [second_apply x1 y1 y3 h1 h3]
    unfold query
    rw [if_neg (by omega)]
    congr 2 <;> simp <;> omega
  · intro x hx
    obtain ⟨r, p, rfl⟩ : ∃ r p, x = ix2 r p := ⟨_, _, eq_ix2 x⟩
    have e0 : d.val = 0 + r.val := hx 0
    have e1 : n.val = 784 + p.val := hx 1
    pointwise [k0_pay14]
    rw [first_apply x0 y0 y2 h0 h2]
    unfold query
    rw [if_pos (by omega)]
    congr 2 <;> simp <;> omega
  · intro x hx
    obtain ⟨r, p, rfl⟩ : ∃ r p, x = ix2 r p := ⟨_, _, eq_ix2 x⟩
    have e0 : d.val = 64 + r.val := hx 0
    have e1 : n.val = 0 + p.val := hx 1
    pointwise [k0_pay13]
    rw [second_apply x1 y1 y3 h1 h3]
    unfold query
    rw [if_neg (by omega)]
    congr 2 <;> simp <;> omega
  · intro x hx
    obtain ⟨r, p, rfl⟩ : ∃ r p, x = ix2 r p := ⟨_, _, eq_ix2 x⟩
    have e0 : d.val = 0 + r.val := hx 0
    have e1 : n.val = 0 + p.val := hx 1
    pointwise [k0_pay12]
    rw [first_apply x0 y0 y2 h0 h2]
    unfold query
    rw [if_pos (by omega)]
    congr 2 <;> simp <;> omega

/-- The scratch of squared norms at column `n`. -/
theorem qsq_apply (n : Fin 1568) :
    qsqOf y0 y1 y2 y3 (ix2 0 n) = (((∑ d ∈ range 128, query x0 x1 (n.val / 784) d (n.val % 784) ^ 2) * (1 / 4) : ℝ) : EReal) := by
  have split : ∀ b p : ℕ, ∑ d ∈ range 128, query x0 x1 b d p ^ 2
      = ∑ d ∈ range 64, query1 x0 (b * 64 + d) p ^ 2 + ∑ d ∈ range 64, query2 x1 (b * 64 + d) p ^ 2 := fun b p => by
    rw [Finset.sum_range_add _ 64 64]
    refine congrArg₂ (· + ·) (Finset.sum_congr rfl fun d hd => ?_) (Finset.sum_congr rfl fun d hd => ?_)
    · unfold query; rw [if_pos (Finset.mem_range.1 hd)]
    · unfold query; rw [if_neg (by omega), show 64 + d - 64 = d by omega]
  unfold qsqOf
  refine View.canon_eq_of_allAt _ _ _ (qsq_cover y0 y1 y2 y3 _) ?_
  refine View.allAt_cons_unit _ _ _ _ _ ?_ (View.allAt_cons_unit _ _ _ _ _ ?_ (View.allAt_nil _ _))
  · intro x hx
    obtain ⟨r, p, rfl⟩ : ∃ r p, x = ix2 r p := ⟨_, _, eq_ix2 x⟩
    have e1 : n.val = 784 + p.val := hx 1
    pointwise [k0_pay5, k0_pay2, k0_pay3]
    simp only [second_apply x1 y1 y3 h1 h3, first_apply x0 y0 y2 h0 h2, coe_sum, ← EReal.coe_mul, ← EReal.coe_add, word_quarter]
    rw [split, Finset.sum_range, Finset.sum_range, show n.val / 784 = 1 by omega, show n.val % 784 = p.val by omega]
    simp only [pow_two, Nat.one_mul, Nat.zero_mul, Nat.zero_add]
  · intro x hx
    obtain ⟨r, p, rfl⟩ : ∃ r p, x = ix2 r p := ⟨_, _, eq_ix2 x⟩
    have e1 : n.val = 0 + p.val := hx 1
    pointwise [k0_pay4, k0_pay2, k0_pay3]
    simp only [second_apply x1 y1 y3 h1 h3, first_apply x0 y0 y2 h0 h2, coe_sum, ← EReal.coe_mul, ← EReal.coe_add, word_quarter]
    rw [split, Finset.sum_range, Finset.sum_range, show n.val / 784 = 0 by omega, show n.val % 784 = p.val by omega]
    simp only [pow_two, Nat.one_mul, Nat.zero_mul, Nat.zero_add]

end

end Cert.KernelIdeal.Math

end
-- ==== Proof.Equation.lean ====
/- The kernel's embedding is the reference's, scaled: summing channels and applying a stencil to a map gives the pooled
   neighbourhoods. Sums of reals only. -/
module

public import proofs.«01_k».proof.Proof.RefScores
public import proofs.«01_k».proof.Proof.KernelEmbed

@[expose] public section

noncomputable section

namespace Cert.Equation

open Idealize.ShloMosaic Cert.Spec Finset
open Cert.KernelIdeal.Math (stencil1 stencil2 rows1 rows2 query1 query2 query)
open Cert.ReferenceIdeal.Math (flat1 flat2 averages embed)

/-- A sum over 784 places, by rows of 28. -/
theorem rows28 (g : ℕ → ℝ) : ∑ p ∈ range 784, g p = ∑ y ∈ range 28, ∑ x ∈ range 28, g (y * 28 + x) := by
  rw [show 784 = 28 * 28 from rfl, Finset.sum_range_mul_split 28 28 g]

/-- A sum over 196 places, by rows of 14. -/
theorem rows14 (g : ℕ → ℝ) : ∑ p ∈ range 196, g p = ∑ y ∈ range 14, ∑ x ∈ range 14, g (y * 14 + x) := by
  rw [show 196 = 14 * 14 from rfl, Finset.sum_range_mul_split 14 14 g]

/-- The first stencil against a map that is zero off its bounds: the nine neighbours, and the place itself once more. -/
theorem stencil_sum (G : ℤ → ℤ → ℝ) (hr : ∀ j, G (-1) j = 0) (hr' : ∀ j, G 28 j = 0) (hc : ∀ i, G i (-1) = 0) (hc' : ∀ i, G i 28 = 0)
    (h w : ℕ) (hh : h < 28) (hw : w < 28) :
    ∑ y ∈ range 28, ∑ x ∈ range 28, G y x * ((if near h y then 1 else 0) * (if near w x then 1 else 0) + (if h = y then 1 else 0) * (if w = x then 1 else 0))
      = ∑ i ∈ range 3, ∑ j ∈ range 3, G (h + i - 1) (w + j - 1) + G h w := by
  have e : ∀ y x : ℕ, G y x * ((if near h y then 1 else 0) * (if near w x then 1 else 0) + (if h = y then 1 else 0) * (if w = x then 1 else 0))
      = (if near y h then (if near x w then G y x else 0) else 0) + (if y = h then (if x = w then G y x else 0) else 0) := fun y x => by
    rw [mul_add]
    refine congrArg₂ (· + ·) ?_ ?_
    · by_cases a : near y h
      · rw [if_pos a, if_pos (show near h y from ⟨a.2, a.1⟩), one_mul]
        by_cases b : near x w
        · rw [if_pos b, if_pos (show near w x from ⟨b.2, b.1⟩), mul_one]
        · rw [if_neg b, if_neg (show ¬near w x from fun t => b ⟨t.2, t.1⟩), mul_zero]
      · rw [if_neg a, if_neg (show ¬near h y from fun t => a ⟨t.2, t.1⟩), zero_mul, mul_zero]
    · by_cases a : y = h
      · rw [if_pos a, if_pos a.symm, one_mul]
        by_cases b : x = w
        · rw [if_pos b, if_pos b.symm, mul_one]
        · rw [if_neg b, if_neg (Ne.symm b), mul_zero]
      · rw [if_neg a, if_neg (Ne.symm a), zero_mul, mul_zero]
  simp only [e, Finset.sum_add_distrib]
  refine congrArg₂ (· + ·) ?_ ?_
  · have inner : ∀ y : ℕ, ∑ x ∈ range 28, (if near y h then (if near x w then G y x else 0) else 0)
        = if near y h then ∑ j ∈ range 3, G y (w + j - 1) else 0 := fun y => by
      by_cases a : near y h
      · simp only [if_pos a]; exact band_sum 28 w hw (fun z => G y z) (hc y) (hc' y)
      · simp only [if_neg a, Finset.sum_const_zero]
    simp only [inner]
    exact band_sum 28 h hh (fun z => ∑ j ∈ range 3, G z (w + j - 1)) (by simp [hr]) (by simp [hr'])
  · rw [Finset.sum_eq_single_of_mem h (Finset.mem_range.2 hh) fun y _ hy => by simp [hy],
      Finset.sum_eq_single_of_mem w (Finset.mem_range.2 hw) fun x _ hx => by simp [hx]]
    simp

/-- The first half of the kernel's embedding, in neighbourhoods. -/
theorem query1_eq (x0) (b d h w : ℕ) (hd : d < 64) (hh : h < 28) (hw : w < 28) :
    query1 x0 (b * 64 + d) (w * 28 + h)
      = (-1 / 40) * ∑ s ∈ range 8, (∑ i ∈ range 3, ∑ j ∈ range 3, at1 x0 b (d * 8 + s) (h + i - 1) (w + j - 1) + at1 x0 b (d * 8 + s) h w) := by
  unfold query1
  rw [Finset.sum_range_add _ 784 112, Finset.sum_eq_zero (s := range 112) (fun p _ => by
    unfold stencil1; rw [if_neg (by omega)]; ring), add_zero, rows28]
  have e : ∀ y ∈ range 28, ∀ x ∈ range 28, (∑ s ∈ range 8, rows1 x0 (b * 64 + d) s (y * 28 + x)) * (stencil1 (y * 28 + x) (w * 28 + h) * (-1 / 40))
      = (-1 / 40) * ∑ s ∈ range 8, at1 x0 b (d * 8 + s) y x * ((if near h y then 1 else 0) * (if near w x then 1 else 0) + (if h = y then 1 else 0) * (if w = x then 1 else 0)) := by
    intro y hy x hx
    rw [Finset.mem_range] at hy hx
    have er : ∀ s, rows1 x0 (b * 64 + d) s (y * 28 + x) = at1 x0 b (d * 8 + s) y x := fun s => by
      unfold rows1
      rw [if_pos (by omega), show (b * 64 + d) / 64 = b by omega, show (b * 64 + d) % 64 = d by omega, show (y * 28 + x) / 28 = y by omega,
        show (y * 28 + x) % 28 = x by omega]
    unfold stencil1
    rw [if_pos (by omega), show (w * 28 + h) % 28 = h by omega, show (w * 28 + h) / 28 = w by omega, show (y * 28 + x) / 28 = y by omega,
        show (y * 28 + x) % 28 = x by omega, ← Finset.sum_mul]
    simp only [er]
    ring
  rw [Finset.sum_congr rfl fun y hy => Finset.sum_congr rfl (e y hy)]
  simp only [← Finset.mul_sum]
  congr 1
  simp only [Finset.sum_comm (s := range 28) (t := range 8)]
  refine Finset.sum_congr rfl fun s _ => ?_
  exact stencil_sum (fun i j => at1 x0 b (d * 8 + s) i j) (fun j => at1_off_row _ _ _ _ _ (by omega)) (fun j => at1_off_row _ _ _ _ _ (by omega))
    (fun j => at1_off_col _ _ _ _ _ (by omega)) (fun j => at1_off_col _ _ _ _ _ (by omega)) h w hh hw

/-- Sixteen values, a pair at a time. -/
theorem pairs (g : ℕ → ℝ) : ∑ t ∈ range 16, g t = ∑ s ∈ range 8, (g (2 * s) + g (2 * s + 1)) := by
  simp only [Finset.sum_range_succ, Finset.sum_range_zero]; norm_num; ring

/-- Nine values as three rows of three. -/
theorem nine (g : ℕ → ℕ → ℝ) : ∑ k ∈ range 9, g (k / 3) (k % 3) = ∑ i ∈ range 3, ∑ j ∈ range 3, g i j := by
  simp only [Finset.sum_range_succ, Finset.sum_range_zero]; norm_num; ring

/-- The first half of the reference's embedding, in neighbourhoods. -/
theorem embed1_eq (x0 x1) (b d h w : ℕ) (hd : d < 64) :
    embed x0 x1 b h w d
      = 1 / 80 * ∑ s ∈ range 8, (∑ i ∈ range 3, ∑ j ∈ range 3, at1 x0 b (d * 8 + s) (h + i - 1) (w + j - 1) + at1 x0 b (d * 8 + s) h w) := by
  unfold embed
  rw [pairs]
  have e : ∀ s ∈ range 8, averages x0 x1 b h w (16 * d + 2 * s) + averages x0 x1 b h w (16 * d + (2 * s + 1))
      = 1 / 5 * (∑ i ∈ range 3, ∑ j ∈ range 3, at1 x0 b (d * 8 + s) (h + i - 1) (w + j - 1) + at1 x0 b (d * 8 + s) h w) := by
    intro s hs
    rw [Finset.mem_range] at hs
    unfold averages
    rw [if_pos (by omega), if_pos (by omega), show 9 * (16 * d + 2 * s) / 2 = 9 * (d * 8 + s) by omega,
      show 9 * (16 * d + (2 * s + 1)) / 2 = 9 * (d * 8 + s) + 4 by omega]
    have f : ∀ k, k < 9 → flat1 x0 b h w (9 * (d * 8 + s) + k) = at1 x0 b (d * 8 + s) (h + (k / 3 : ℕ) - 1) (w + (k % 3 : ℕ) - 1) := fun k hk => by
      unfold flat1
      rw [show (9 * (d * 8 + s) + k) / 9 = d * 8 + s by omega, show (9 * (d * 8 + s) + k) / 3 % 3 = k / 3 by omega,
        show (9 * (d * 8 + s) + k) % 3 = k % 3 by omega]
    rw [← nine fun i j => at1 x0 b (d * 8 + s) (h + i - 1) (w + j - 1)]
    have c : at1 x0 b (d * 8 + s) h w = flat1 x0 b h w (9 * (d * 8 + s) + 4) := by
      rw [f 4 (by norm_num)]; congr 1 <;> norm_num
    rw [c, ← Finset.sum_congr rfl fun k hk => f k (Finset.mem_range.1 hk)]
    simp only [Finset.sum_range_succ, Finset.sum_range_zero, Nat.add_assoc]
    norm_num
    ring
  rw [Finset.sum_congr rfl e, ← Finset.mul_sum]
  ring

/-- Weights summed over neighbours against a function that is zero off its bounds: the weights against its neighbourhoods. -/
theorem spread_sum (g : ℤ → ℝ) (h0 : g (-1) = 0) (h1 : g 14 = 0) (o : ℕ) :
    ∑ r ∈ range 14, nearWt o r * g r = ∑ k ∈ range 14, wt 4 1 14 o k * ∑ i ∈ range 3, g (k + i - 1) := by
  unfold nearWt
  simp only [Finset.sum_mul]
  rw [Finset.sum_comm]
  refine Finset.sum_congr rfl fun k hk => ?_
  rw [← band_sum 14 k (Finset.mem_range.1 hk) g h0 h1, Finset.mul_sum]
  refine Finset.sum_congr rfl fun r _ => ?_
  by_cases a : near r k
  · rw [if_pos a, if_pos a]
  · rw [if_neg a, if_neg a, zero_mul, mul_zero]

/-- The second half of the kernel's embedding, in neighbourhoods. -/
theorem query2_eq (x1) (b d h w : ℕ) (hd : d < 64) (hh : h < 28) (hw : w < 28) :
    query2 x1 (b * 64 + d) (w * 28 + h)
      = (-1 / 72) * ∑ t ∈ range 16, ∑ r ∈ range 14, nearWt h r * ∑ s ∈ range 14, nearWt w s * at2 x1 b (d * 16 + t) r s := by
  unfold query2
  rw [Finset.sum_range_add _ 196 60, Finset.sum_eq_zero (s := range 60) (fun p _ => by
    unfold stencil2; rw [if_neg (by omega)]; ring), add_zero, rows14]
  have e : ∀ y ∈ range 14, ∀ x ∈ range 14, (∑ s ∈ range 16, rows2 x1 (b * 64 + d) s (y * 14 + x)) * (stencil2 (y * 14 + x) (w * 28 + h) * (-1 / 72))
      = (-1 / 72) * ∑ s ∈ range 16, nearWt h y * (nearWt w x * at2 x1 b (d * 16 + s) y x) := by
    intro y hy x hx
    rw [Finset.mem_range] at hy hx
    have er : ∀ s, rows2 x1 (b * 64 + d) s (y * 14 + x) = at2 x1 b (d * 16 + s) y x := fun s => by
      unfold rows2
      rw [if_pos (by omega), show (b * 64 + d) / 64 = b by omega, show (b * 64 + d) % 64 = d by omega, show (y * 14 + x) / 14 = y by omega,
        show (y * 14 + x) % 14 = x by omega]
    unfold stencil2
    rw [if_pos (by omega), show (w * 28 + h) % 28 = h by omega, show (w * 28 + h) / 28 = w by omega, show (y * 14 + x) / 14 = y by omega,
        show (y * 14 + x) % 14 = x by omega, ← Finset.mul_sum, ← Finset.mul_sum]
    simp only [er]
    ring
  rw [Finset.sum_congr rfl fun y hy => Finset.sum_congr rfl (e y hy)]
  simp only [← Finset.mul_sum]
  congr 1
  simp only [Finset.mul_sum]
  simp only [Finset.sum_comm (s := range 14) (t := range 16)]

/-- The second half of the reference's embedding, in neighbourhoods. -/
theorem embed2_eq (x0 x1) (b d h w : ℕ) :
    embed x0 x1 b h w (64 + d)
      = 1 / 144 * ∑ t ∈ range 16, ∑ r ∈ range 14, nearWt h r * ∑ s ∈ range 14, nearWt w s * at2 x1 b (d * 16 + t) r s := by
  unfold embed
  have e : ∀ t ∈ range 16, averages x0 x1 b h w (16 * (64 + d) + t)
      = 1 / 9 * ∑ r ∈ range 14, nearWt h r * ∑ s ∈ range 14, nearWt w s * at2 x1 b (d * 16 + t) r s := by
    intro t ht
    rw [Finset.mem_range] at ht
    unfold averages
    rw [if_neg (by omega), show 16 * (64 + d) + t - 1024 = d * 16 + t by omega]
    congr 1
    have f : ∀ k ∈ range 9, flat2 x1 b h w (9 * (d * 16 + t) + k) = ∑ s ∈ range 14, (∑ r ∈ range 14, wt 4 1 14 h r * at2 x1 b (d * 16 + t) (r + (k / 3 : ℕ) - 1) (s + (k % 3 : ℕ) - 1)) * wt 4 1 14 w s := fun k hk => by
      rw [Finset.mem_range] at hk
      unfold flat2
      rw [show (9 * (d * 16 + t) + k) / 9 = d * 16 + t by omega, show (9 * (d * 16 + t) + k) / 3 % 3 = k / 3 by omega,
        show (9 * (d * 16 + t) + k) % 3 = k % 3 by omega]
    rw [Finset.sum_congr rfl f, nine fun i j => ∑ s ∈ range 14, (∑ r ∈ range 14, wt 4 1 14 h r * at2 x1 b (d * 16 + t) (r + i - 1) (s + j - 1)) * wt 4 1 14 w s]
    have inner : ∀ r : ℤ, ∑ s ∈ range 14, nearWt w s * at2 x1 b (d * 16 + t) r s
        = ∑ s ∈ range 14, wt 4 1 14 w s * ∑ j ∈ range 3, at2 x1 b (d * 16 + t) r (s + j - 1) := fun r =>
      spread_sum (fun z => at2 x1 b (d * 16 + t) r z) (at2_off_col _ _ _ _ _ (by omega)) (at2_off_col _ _ _ _ _ (by omega)) w
    rw [show ∑ r ∈ range 14, nearWt h r * ∑ s ∈ range 14, nearWt w s * at2 x1 b (d * 16 + t) r s
        = ∑ r ∈ range 14, nearWt h r * (fun z : ℤ => ∑ s ∈ range 14, wt 4 1 14 w s * ∑ j ∈ range 3, at2 x1 b (d * 16 + t) z (s + j - 1)) r from
      Finset.sum_congr rfl fun r _ => congrArg _ (inner r),
      spread_sum (fun z : ℤ => ∑ s ∈ range 14, wt 4 1 14 w s * ∑ j ∈ range 3, at2 x1 b (d * 16 + t) z (s + j - 1)) (by
        refine Finset.sum_eq_zero fun s _ => ?_
        rw [Finset.sum_eq_zero fun j _ => at2_off_row _ _ _ _ _ (by omega), mul_zero]) (by
        refine Finset.sum_eq_zero fun s _ => ?_
        rw [Finset.sum_eq_zero fun j _ => at2_off_row _ _ _ _ _ (by omega), mul_zero]) h]
    simp only [Finset.mul_sum, Finset.sum_mul]
    simp only [Finset.sum_comm (s := range 3) (t := range 14)]
    rw [Finset.sum_comm]
    refine Finset.sum_congr rfl fun r _ => Finset.sum_congr rfl fun s _ => Finset.sum_congr rfl fun i _ => Finset.sum_congr rfl fun j _ => ?_
    ring
  rw [Finset.sum_congr rfl e, ← Finset.mul_sum]
  ring

/-- The kernel's embedding is minus twice the reference's. -/
theorem query_eq (x0 x1) (b d h w : ℕ) (hd : d < 128) (hh : h < 28) (hw : w < 28) :
    query x0 x1 b d (w * 28 + h) = -2 * embed x0 x1 b h w d := by
  unfold query
  by_cases c : d < 64
  · rw [if_pos c, query1_eq x0 b d h w c hh hw, embed1_eq x0 x1 b d h w c]; ring
  · rw [if_neg c, query2_eq x1 b (d - 64) h w (by omega) hh hw]
    have := embed2_eq x0 x1 b (d - 64) h w
    rw [show 64 + (d - 64) = d by omega] at this
    rw [this]; ring

/-- What the kernel computes of a pixel and a row of the bank is their squared distance. -/
theorem dist_eq (x0 x1 x2) (b h w k : ℕ) (hh : h < 28) (hw : w < 28) :
    (∑ d ∈ range 128, atM x2 k d * query x0 x1 b d (w * 28 + h) + ∑ d ∈ range 128, atM x2 k d * atM x2 k d)
        + (∑ d ∈ range 128, query x0 x1 b d (w * 28 + h) ^ 2) * (1 / 4) = Cert.ReferenceIdeal.Math.dist x0 x1 x2 b h w k := by
  unfold Cert.ReferenceIdeal.Math.dist
  rw [Finset.sum_congr rfl fun d hd => congrArg (atM x2 k d * ·) (query_eq x0 x1 b d h w (Finset.mem_range.1 hd) hh hw),
    Finset.sum_congr rfl fun d hd => congrArg (· ^ 2) (query_eq x0 x1 b d h w (Finset.mem_range.1 hd) hh hw)]
  have e1 : ∑ d ∈ range 128, atM x2 k d * (-2 * embed x0 x1 b h w d) = -2 * ∑ d ∈ range 128, embed x0 x1 b h w d * atM x2 k d := by
    rw [Finset.mul_sum]; exact Finset.sum_congr rfl fun d _ => by ring
  have e2 : ∑ d ∈ range 128, (-2 * embed x0 x1 b h w d) ^ 2 = 4 * ∑ d ∈ range 128, embed x0 x1 b h w d * embed x0 x1 b h w d := by
    rw [Finset.mul_sum]; exact Finset.sum_congr rfl fun d _ => by ring
  rw [e1, e2]; ring

end Cert.Equation

end
-- ==== Proof.KernelHost.lean ====
/- What the kernel's host code hands to the two calls, read at an index: the two feature maps in rows of flattened pixels, the
   two stencil matrices and the table of the masks. -/
module

public import proofs.«01_k».proof.Proof.IdealRun
public import proofs.«01_k».proof.Proof.KernelTables
public import proofs.«01_k».proof.Proof.KernelEmbed
public import Idealize.ShloMosaic.Lib.StableHlo.ReadAt

@[expose] public section

set_option maxRecDepth 16384

noncomputable section

namespace Cert.KernelIdeal.Math

open Idealize.ShloMosaic Cert.KernelIdeal Cert.KernelIdeal.Gen Cert.Spec
open Idealize.ShloMosaic.TcCoe

/-- The zero word converted is zero. -/
theorem zero_word : (FloatOps.sitofp (F := Ideal) FTy.f32 (0#32)) = ((0 : ℝ) : EReal) := (sitofp_word 0 (by norm_num)).trans (by norm_num)

/-- The first stencil inside: the outer products of the bands and of the identities, added. -/
theorem stencil1_in (p q : ℕ) (h : p < 784 ∧ q < 784) :
    ((if near (q % 28) (p / 28) then 1 else 0 : ℝ) : EReal) * ((if near (q / 28) (p % 28) then 1 else 0 : ℝ) : EReal)
      + ((if q % 28 = p / 28 then 1 else 0 : ℝ) : EReal) * ((if q / 28 = p % 28 then 1 else 0 : ℝ) : EReal) = ((stencil1 p q : ℝ) : EReal) := by
  unfold stencil1
  rw [if_pos h, EReal.coe_add, EReal.coe_mul, EReal.coe_mul]

/-- The first stencil's padding is zero. -/
theorem stencil1_out (p q : ℕ) (h : ¬(p < 784 ∧ q < 784)) : ((0 : ℝ) : EReal) = ((stencil1 p q : ℝ) : EReal) := by
  unfold stencil1
  rw [if_neg h]

/-- The second stencil inside: the outer product of the summed interpolation weights. -/
theorem stencil2_in (p q : ℕ) (h : p < 196 ∧ q < 784) :
    ((nearWt (q % 28) (p / 14) : ℝ) : EReal) * ((nearWt (q / 28) (p % 14) : ℝ) : EReal) = ((stencil2 p q : ℝ) : EReal) := by
  unfold stencil2
  rw [if_pos h, EReal.coe_mul]

/-- The second stencil's padding is zero. -/
theorem stencil2_out (p q : ℕ) (h : ¬(p < 196 ∧ q < 784)) : ((0 : ℝ) : EReal) = ((stencil2 p q : ℝ) : EReal) := by
  unfold stencil2
  rw [if_neg h]

variable (m : (ℓ : Loc nD τ sig) → Buf (Elt Ideal) ℓ)

/-- The first map in rows: row `a` holds eight channels of one batch, a channel's pixels flattened and padded by zeros. -/
theorem host_first (c : Dev nD) (x0 : (⟨S2x512x28x28, .f32⟩ : BufTy).Contents (Elt Ideal)) (e0 : V0 m c (Proc.devRef .tc main_arg0) = x0)
    (h0 : Spec.Real x0) (a : Fin 128) (s : Fin 8) (q : Fin 896) :
    V8 m c (Proc.devRef .tc main_v1) (ix3 a s q)
      = ((if q.val < 784 then at1 x0 (a.val / 64) (a.val % 64 * 8 + s.val) (q.val / 28 : ℕ) (q.val % 28 : ℕ) else 0 : ℝ) : EReal) := by
  rw [V8_of m c _ (by decide), V7_of m c _ (by decide), V6_of m c _ (by decide), V5_of m c _ (by decide), V4_of m c _ (by decide),
    V3_of m c _ (by decide)]
  unfold V2
  after_reads_at
  simp only [e0]
  split_ifs with h
  · exact at1_in x0 h0 _ _ _ _
  · exact zero_word

/-- The second map in rows: row `a` holds sixteen channels of one batch. -/
theorem host_second (c : Dev nD) (x1 : (⟨S2x1024x14x14, .f32⟩ : BufTy).Contents (Elt Ideal)) (e1 : V0 m c (Proc.devRef .tc main_arg1) = x1)
    (h1 : Spec.Real x1) (a : Fin 128) (s : Fin 16) (q : Fin 256) :
    V8 m c (Proc.devRef .tc main_v3) (ix3 a s q)
      = ((if q.val < 196 then at2 x1 (a.val / 64) (a.val % 64 * 16 + s.val) (q.val / 14 : ℕ) (q.val % 14 : ℕ) else 0 : ℝ) : EReal) := by
  rw [V8_of m c _ (by decide), V7_of m c _ (by decide), V6_of m c _ (by decide), V5_of m c _ (by decide)]
  unfold V4
  after_reads_at
  simp only [e1]
  split_ifs with h
  · exact at2_in x1 h1 _ _ _ _
  · exact zero_word

/-- The first stencil matrix the host computes. -/
theorem host_stencil1 (c : Dev nD) (p q : Fin 896) :
    V8 m c (Proc.devRef .tc main_v21) (ix2 p q) = ((stencil1 p.val q.val : ℝ) : EReal) := by
  rw [V8_of m c _ (by decide), V7_of m c _ (by decide)]
  unfold V6
  after_reads_at
  by_cases h : p.val < 784 ∧ q.val < 784
  · refine (dif_pos h).trans ?_
    refine (congrArg₂ (· + ·) (congrArg₂ (· * ·) (band_apply _ _) (band_apply _ _)) (congrArg₂ (· * ·) (eye_apply _ _) (eye_apply _ _))).trans ?_
    exact stencil1_in _ _ h
  · exact (dif_neg h).trans (zero_word.trans (stencil1_out _ _ h))

/-- The second stencil matrix the host computes. -/
theorem host_stencil2 (c : Dev nD) (p : Fin 256) (q : Fin 896) :
    V8 m c (Proc.devRef .tc main_v30) (ix2 p q) = ((stencil2 p.val q.val : ℝ) : EReal) := by
  unfold V8
  after_reads_at
  by_cases h : p.val < 196 ∧ q.val < 784
  · refine (dif_pos h).trans ?_
    refine (congrArg₂ (· * ·) (spread_apply _ _) (spread_apply _ _)).trans ?_
    exact stencil2_in _ _ h
  · exact (dif_neg h).trans (zero_word.trans (stencil2_out _ _ h))

/-- The table of the masks. -/
theorem host_masks (c : Dev nD) (r : Fin 224) (i : Fin 28) :
    V8 m c (Proc.devRef .tc main_cst_2) (ix2 r i) = ((wt 16 7 28 r.val i.val : ℝ) : EReal) := by
  rw [V8_of m c _ (by decide), V7_of m c _ (by decide), V6_of m c _ (by decide), V5_of m c _ (by decide), V4_of m c _ (by decide),
    V3_of m c _ (by decide), V2_of m c _ (by decide)]
  unfold V1
  after_reads_at
  exact masks_apply r i

end Cert.KernelIdeal.Math

end
-- ==== Proof.KernelBlocks.lean ====
/- What each window of the first call holds at a grid point: four windows show their whole array at every point, the bank's
   window shows ten thousand rows, the next ones at each point. -/
module

public import proofs.«01_k».proof.Proof.IdealRun
public import proofs.«01_k».proof.Proof.RealSums
public import Idealize.ShloMosaic.Lib.Pointwise
public import Idealize.ShloMosaic.Lib.Pipeline.ValueKit

@[expose] public section

set_option maxRecDepth 16384

noncomputable section

namespace Cert.KernelIdeal.Math

open Idealize.ShloMosaic Cert.KernelIdeal Cert.KernelIdeal.Gen Cert.KernelIdeal.Run Cert.Spec
open Idealize.ShloMosaic.TcCoe

/-- The first four windows and the result's window stay at the array's first block; the bank's window moves a tile a point. -/
theorem index_first : ∀ (t : Fin cfg0.N) (a : Fin 3), win0_0.index t a = 0 := by decide +kernel
theorem index_second : ∀ (t : Fin cfg0.N) (a : Fin 3), win0_1.index t a = 0 := by decide +kernel
theorem index_stencil1 : ∀ (t : Fin cfg0.N) (a : Fin 2), win0_2.index t a = 0 := by decide +kernel
theorem index_stencil2 : ∀ (t : Fin cfg0.N) (a : Fin 2), win0_3.index t a = 0 := by decide +kernel
theorem index_bank : ∀ (t : Fin cfg0.N), win0_4.index t 0 = t.val ∧ win0_4.index t 1 = 0 := by decide +kernel
theorem index_result : ∀ (t : Fin cfg0.N) (a : Fin 2), win0_5.index t a = 0 := by decide +kernel

variable (V : (c : Dev nD) → (b : Ref sig .tc) → Buf (Elt Ideal) ((c : Thread nD τ).loc b)) (c : Dev nD)

/-- The first map's window is the whole array of its rows. -/
theorem block_first (t : Fin cfg0.N) (a : Fin 128) (s : Fin 8) (q : Fin 896) : blk0 V c 0 t (ix3 a s q) = V c main_v1 (ix3 a s q) := by
  blk_ext [blk0, index_first]
/-- The second map's window is the whole array of its rows. -/
theorem block_second (t : Fin cfg0.N) (a : Fin 128) (s : Fin 16) (q : Fin 256) : blk0 V c 1 t (ix3 a s q) = V c main_v3 (ix3 a s q) := by
  blk_ext [blk0, index_second]
/-- The first stencil's window is the whole matrix. -/
theorem block_stencil1 (t : Fin cfg0.N) (p : Fin 896) (q : Fin 896) : blk0 V c 2 t (ix2 p q) = V c main_v21 (ix2 p q) := by
  blk_ext [blk0, index_stencil1]
/-- The second stencil's window is the whole matrix. -/
theorem block_stencil2 (t : Fin cfg0.N) (p : Fin 256) (q : Fin 896) : blk0 V c 3 t (ix2 p q) = V c main_v30 (ix2 p q) := by
  blk_ext [blk0, index_stencil2]
/-- At point `t` the bank's window shows the rows from `10000 t` on. -/
theorem block_bank (t : Fin cfg0.N) (x : Fin 10000) (d : Fin 128) (k : Fin 100000) (hk : k.val = 10000 * t.val + x.val) :
    blk0 V c 4 t (ix2 x d) = V c main_arg2 (ix2 k d) := by
  have h := index_bank t
  blk_ext [blk0, h.1, h.2, hk]

end Cert.KernelIdeal.Math

end
-- ==== Proof.KernelPatch.lean ====
/- The kernel's first call at a pixel: the least squared distance to a row of the bank, as the reference has it. -/
module

public import proofs.«01_k».proof.Proof.Equation
public import proofs.«01_k».proof.Proof.KernelHost
public import proofs.«01_k».proof.Proof.KernelBlocks

@[expose] public section

set_option maxRecDepth 16384

noncomputable section

namespace Cert.KernelIdeal.Math

open Idealize.ShloMosaic Cert.KernelIdeal Cert.KernelIdeal.Gen Cert.KernelIdeal.Run Cert.Spec Finset
open Idealize.ShloMosaic.TcCoe

/-- The result's window is the whole array, written back at the last point. -/
theorem last_whole : ∃ t : Fin cfg0.N, t.val = 9 ∧ (cfg0.win 5).WholeAt t := by decide +kernel

/-- What the kernel takes the minimum of: bank row `k` against the scaled embedding of pixel `p` of batch `b`. -/
def against (x0 : (⟨S2x512x28x28, .f32⟩ : BufTy).Contents (Elt Ideal)) (x1 : (⟨S2x1024x14x14, .f32⟩ : BufTy).Contents (Elt Ideal))
    (x2 : (⟨S100000x128, .f32⟩ : BufTy).Contents (Elt Ideal)) (b p k : ℕ) : ℝ :=
  ∑ d ∈ range 128, atM x2 k d * query x0 x1 b d p + ∑ d ∈ range 128, atM x2 k d * atM x2 k d

/-- One tile's minimum at a column is the least over the tile's rows. -/
theorem tile_least (x0 : (⟨S2x512x28x28, .f32⟩ : BufTy).Contents (Elt Ideal)) (x1 : (⟨S2x1024x14x14, .f32⟩ : BufTy).Contents (Elt Ideal))
    (x2 : (⟨S100000x128, .f32⟩ : BufTy).Contents (Elt Ideal)) (y : Vec Ideal S10000x128 .f32) (q : Vec Ideal S128x1568 .fp8e4m3) (t b p : ℕ)
    (n : Fin 1568)
    (hy : ∀ (x : Fin 10000) (d : Fin 128), y (ix2 x d) = ((atM x2 (10000 * t + x.val) d.val : ℝ) : EReal))
    (hq : ∀ d : Fin 128, q (ix2 d n) = ((query x0 x1 b d.val p : ℝ) : EReal)) :
    Least 10000 (fun k => ((against x0 x1 x2 b p (10000 * t + k) : ℝ) : EReal)) (k0_pay6 (F := Ideal) y q (ix2 0 n)) := by
  pointwise [k0_pay6]
  simp only [hy, hq, ← EReal.coe_mul, coe_sum, ← EReal.coe_add, Cert.ReferenceIdeal.Math.word_top]
  refine least_fold _ _ fun k hk => ?_
  unfold against
  simp only [Finset.sum_range]

section
variable (m : (ℓ : Loc nD τ sig) → Buf (Elt Ideal) ℓ) (c : Dev nD)
  (x0 : (⟨S2x512x28x28, .f32⟩ : BufTy).Contents (Elt Ideal)) (x1 : (⟨S2x1024x14x14, .f32⟩ : BufTy).Contents (Elt Ideal))
  (x2 : (⟨S100000x128, .f32⟩ : BufTy).Contents (Elt Ideal))
  (e0 : V0 m c (Proc.devRef .tc main_arg0) = x0) (e1 : V0 m c (Proc.devRef .tc main_arg1) = x1) (e2 : V0 m c (Proc.devRef .tc main_arg2) = x2)
  (h0 : Spec.Real x0) (h1 : Spec.Real x1) (h2 : Spec.Real x2)

include e2 h2 in
/-- A tile of the bank as the body finds it. -/
theorem bank_apply (t : Fin cfg0.N) (x : Fin 10000) (d : Fin 128) :
    blk0 (X8 m) c 4 t (ix2 x d) = ((atM x2 (10000 * t.val + x.val) d.val : ℝ) : EReal) := by
  have ht : t.val < 10 := lt_of_lt_of_eq t.isLt N_0
  rw [block_bank (X8 m) c t x d ⟨10000 * t.val + x.val, by omega⟩ rfl]
  show V8 m c (Proc.devRef .tc main_arg2) _ = _
  rw [W8_main_arg2 m c]
  refine (congrFun e2 _).trans ?_
  exact atM_in x2 h2 _ _

include e0 e1 h0 h1 in
/-- The query scratch after the embedding. -/
theorem qt0_apply (d : Fin 128) (n : Fin 1568) :
    qt0 (X8 m) c (ix2 d n) = ((query x0 x1 (n.val / 784) d.val (n.val % 784) : ℝ) : EReal) :=
  qt_apply x0 x1 _ _ _ _ (fun a s p => (block_first (X8 m) c pt0 a s p).trans (host_first m c x0 e0 h0 a s p))
    (fun a s p => (block_second (X8 m) c pt0 a s p).trans (host_second m c x1 e1 h1 a s p))
    (fun p q => (block_stencil1 (X8 m) c pt0 p q).trans (host_stencil1 m c p q))
    (fun p q => (block_stencil2 (X8 m) c pt0 p q).trans (host_stencil2 m c p q)) d n

include e0 e1 h0 h1 in
/-- The squared norms after the embedding. -/
theorem qsq0_apply (n : Fin 1568) :
    qsq0 (X8 m) c (ix2 0 n) = (((∑ d ∈ range 128, query x0 x1 (n.val / 784) d (n.val % 784) ^ 2) * (1 / 4) : ℝ) : EReal) :=
  qsq_apply x0 x1 _ _ _ _ (fun a s p => (block_first (X8 m) c pt0 a s p).trans (host_first m c x0 e0 h0 a s p))
    (fun a s p => (block_second (X8 m) c pt0 a s p).trans (host_second m c x1 e1 h1 a s p))
    (fun p q => (block_stencil1 (X8 m) c pt0 p q).trans (host_stencil1 m c p q))
    (fun p q => (block_stencil2 (X8 m) c pt0 p q).trans (host_stencil2 m c p q)) n

include e0 e1 e2 h0 h1 h2 in
/-- The running minimum after point `t` is the least over the rows of the tiles so far. -/
theorem acc_least (n : Fin 1568) : ∀ (t : ℕ) (ht : t < cfg0.N),
    Least (10000 * (t + 1)) (fun k => ((against x0 x1 x2 (n.val / 784) (n.val % 784) k : ℝ) : EReal)) (acc0 (X8 m) c t ht (ix2 0 n))
  | 0, ht => by
    have := tile_least x0 x1 x2 (blk0 (X8 m) c 4 ⟨0, ht⟩) (qt0 (X8 m) c) 0 (n.val / 784) (n.val % 784) n
      (fun x d => bank_apply m c x2 e2 h2 ⟨0, ht⟩ x d) (fun d => qt0_apply m c x0 x1 e0 e1 h0 h1 d n)
    simp only [Nat.mul_zero, Nat.zero_add] at this
    have e : acc0 (X8 m) c 0 ht (ix2 0 n) = k0_pay6 (blk0 (X8 m) c 4 ⟨0, ht⟩) (qt0 (X8 m) c) (ix2 0 n) := by
      show k0_pay7 _ _ _ = _
      generalize blk0 (X8 m) c 4 ⟨0, ht⟩ = y
      generalize qt0 (X8 m) c = q
      unfold k0_pay7
      generalize k0_pay6 y q = z
      pointwise []
    rw [e]
    exact this
  | t + 1, ht => by
    have a := acc_least n t (Nat.lt_of_succ_lt ht)
    have this := tile_least x0 x1 x2 (blk0 (X8 m) c 4 ⟨t + 1, ht⟩) (qt0 (X8 m) c) (t + 1) (n.val / 784) (n.val % 784) n
      (fun x d => bank_apply m c x2 e2 h2 ⟨t + 1, ht⟩ x d) (fun d => qt0_apply m c x0 x1 e0 e1 h0 h1 d n)
    have e : acc0 (X8 m) c (t + 1) ht (ix2 0 n)
        = min (acc0 (X8 m) c t (Nat.lt_of_succ_lt ht) (ix2 0 n) : EReal) (k0_pay6 (blk0 (X8 m) c 4 ⟨t + 1, ht⟩) (qt0 (X8 m) c) (ix2 0 n)) := by
      show k0_pay8 _ _ _ _ = _
      generalize blk0 (X8 m) c 4 ⟨t + 1, ht⟩ = y
      generalize qt0 (X8 m) c = q
      generalize acc0 (X8 m) c t _ = w
      unfold k0_pay8
      generalize k0_pay6 y q = z
      pointwise []
    rw [e]
    exact a.append this

/-- What the body leaves in the result after point `t`: the running minimum and the squared norm. -/
theorem res_apply (V : (c : Dev nD) → (b : Ref sig .tc) → Buf (Elt Ideal) ((c : Thread nD τ).loc b)) (t : ℕ) (ht : t < cfg0.N) (n : Fin 1568) :
    res0 V c t ht (ix2 0 n) = (acc0 V c t ht (ix2 0 n) : EReal) + (qsq0 V c (ix2 0 n) : EReal) := by
  unfold res0
  generalize acc0 V c t ht = y
  generalize qsq0 V c = z
  pointwise [k0_pay9]

include e0 e1 e2 h0 h1 h2 in
/-- The result after point `t`, at a column: the least squared distance to the rows of the tiles so far. -/
theorem res_least (n : Fin 1568) (b : Fin 2) (h w : Fin 28) (hn : n.val = b.val * 784 + w.val * 28 + h.val) (t : ℕ) (ht : t < cfg0.N) :
    Least (10000 * (t + 1)) (fun k => ((Cert.ReferenceIdeal.Math.dist x0 x1 x2 b.val h.val w.val k : ℝ) : EReal)) (res0 (X8 m) c t ht (ix2 0 n)) := by
  have hA := (acc_least m c x0 x1 x2 e0 e1 e2 h0 h1 h2 n t ht).add_coe
    ((∑ d ∈ range 128, query x0 x1 (n.val / 784) d (n.val % 784) ^ 2) * (1 / 4))
  rw [res_apply, qsq0_apply m c x0 x1 e0 e1 h0 h1 n]
  have hb : n.val / 784 = b.val := by omega
  have hp : n.val % 784 = w.val * 28 + h.val := by omega
  rw [hb, hp] at hA ⊢
  have g : ∀ k, ((against x0 x1 x2 b.val (w.val * 28 + h.val) k : ℝ) : EReal)
      + (((∑ d ∈ range 128, query x0 x1 b.val d (w.val * 28 + h.val) ^ 2) * (1 / 4) : ℝ) : EReal)
      = ((Cert.ReferenceIdeal.Math.dist x0 x1 x2 b.val h.val w.val k : ℝ) : EReal) := fun k => by
    rw [← EReal.coe_add]
    exact congrArg _ (Cert.Equation.dist_eq x0 x1 x2 b.val h.val w.val k h.isLt w.isLt)
  simp only [g] at hA
  exact hA

/-- The first call leaves what the body left at the point that wrote the whole array last. -/
theorem first_result (n : Fin 1568) (t : Fin cfg0.N) (hw : (cfg0.win 5).WholeAt t) :
    W9 m c (Proc.devRef .tc main_v31) (ix2 0 n) = res0 (X8 m) c t.val t.isLt (ix2 0 n) := by
  refine (congrFun (W9_arr m c 5) _).trans ?_
  refine congrFun ((dat0 (X8 m) c).arrAt_eq_of_after_last 5 t hw (res0 (X8 m) c t.val t.isLt) fun j => ?_) _
  rw [after0_5]
  rfl

include e0 e1 e2 h0 h1 h2 in
/-- The first call's result is the reference's score of the pixel. -/
theorem first_score (n n' : Fin 1568) (b : Fin 2) (h w : Fin 28) (hn : n.val = b.val * 784 + w.val * 28 + h.val)
    (hn' : n'.val = b.val * 784 + h.val * 28 + w.val) :
    W9 m c (Proc.devRef .tc main_v31) (ix2 0 n) = Cert.ReferenceIdeal.Read.val_main_v241 (F := Ideal) x0 x1 x2 (ix1 n') := by
  obtain ⟨t, ht, hw⟩ := last_whole
  refine (first_result m c n t hw).trans ?_
  have hA := res_least m c x0 x1 x2 e0 e1 e2 h0 h1 h2 n b h w hn t.val t.isLt
  have hN : 10000 * (t.val + 1) = 100000 := by omega
  rw [hN] at hA
  exact hA.unique
    (Cert.ReferenceIdeal.Math.score_least x0 x1 x2 h0 h1 h2 n' b h w hn')

end

end Cert.KernelIdeal.Math

end
-- ==== Proof.KernelValue.lean ====
/- The kernel's two results are the reference's: the second call over the first call's scores. -/
module

public import proofs.«01_k».proof.Proof.KernelPatch

@[expose] public section

set_option maxRecDepth 16384

noncomputable section

namespace Cert.KernelIdeal.Math

open Idealize.ShloMosaic Cert.KernelIdeal Cert.KernelIdeal.Gen Cert.KernelIdeal.Run Cert.Spec Finset
open Idealize.ShloMosaic.TcCoe

/-- Both arguments of the second call are shown whole. -/
theorem index_scores : ∀ (t : Fin cfg1.N) (a : Fin 3), win1_0.index t a = 0 := by decide +kernel
theorem index_weights : ∀ (t : Fin cfg1.N) (a : Fin 2), win1_1.index t a = 0 := by decide +kernel

/-- Each result of the second call is one window, its whole array. -/
theorem images_whole : ∃ t : Fin cfg1.N, (cfg1.win 2).WholeAt t := by decide +kernel
theorem masks_whole : ∃ t : Fin cfg1.N, (cfg1.win 3).WholeAt t := by decide +kernel

section
variable (V : (c : Dev nD) → (b : Ref sig .tc) → Buf (Elt Ideal) ((c : Thread nD τ).loc b)) (c : Dev nD)

/-- The second call reads the scores as they are. -/
theorem block_scores (t : Fin cfg1.N) (b : Fin 2) (x y : Fin 28) : blk1 V c 0 t (ix3 b x y) = V c main_v32 (ix3 b x y) := by
  blk_ext [blk1, index_scores]
/-- And the table of the masks as it is. -/
theorem block_weights (t : Fin cfg1.N) (r : Fin 224) (i : Fin 28) : blk1 V c 1 t (ix2 r i) = V c main_cst_2 (ix2 r i) := by
  blk_ext [blk1, index_weights]
end

variable (m : (ℓ : Loc nD τ sig) → Buf (Elt Ideal) ℓ) (c : Dev nD)

/-- The scores as the second call finds them: the first call's row, by batch, column and row of the pixel. -/
theorem scores_reshaped (b : Fin 2) (w h : Fin 28) :
    W10 m c (Proc.devRef .tc main_v32) (ix3 b w h)
      = W9 m c (Proc.devRef .tc main_v31) (ix2 0 ⟨b.val * 784 + w.val * 28 + h.val, by omega⟩) := by
  unfold W10
  after_reads_at

/-- The table of the masks as the second call finds it. -/
theorem weights_kept (r : Fin 224) (i : Fin 28) :
    W10 m c (Proc.devRef .tc main_cst_2) (ix2 r i) = ((wt 16 7 28 r.val i.val : ℝ) : EReal) := by
  rw [W10_of m c _ (by decide), W9_of_ne m c _ (by decide)]
  exact host_masks m c r i

/-- The image scores at the end, as the second call left them. -/
theorem images_reshaped (b : Fin 2) :
    W12 m c (Proc.devRef .tc main_v34) (ix1 b) = W11 m c (Proc.devRef .tc main_v33_0) (ix2 0 b) := by
  unfold W12
  after_reads_at

/-- What the second call leaves in its first result. -/
theorem images_result (t : Fin cfg1.N) (hw : (cfg1.win 2).WholeAt t) (b : Fin 2) :
    W11 m c (Proc.devRef .tc main_v33_0) (ix2 0 b) = k1_pay3 (blk1 (X10 m) c 0 t) (ix2 0 b) := by
  refine (congrFun (W11_arr m c 2) _).trans ?_
  refine congrFun ((dat1 (X10 m) c).arrAt_eq_of_after_last 2 t hw (k1_pay3 (blk1 (X10 m) c 0 t)) fun j => ?_) _
  rw [after1_2]
  rfl

/-- What the second call leaves in its second result. -/
theorem masks_result (t : Fin cfg1.N) (hw : (cfg1.win 3).WholeAt t) (b : Fin 2) (r s : Fin 224) :
    W11 m c (Proc.devRef .tc main_v33_1) (ix3 b r s) = k1_pay2 (blk1 (X10 m) c 0 t) (blk1 (X10 m) c 1 t) (ix3 b r s) := by
  refine (congrFun (W11_arr m c 3) _).trans ?_
  refine congrFun ((dat1 (X10 m) c).arrAt_eq_of_after_last 3 t hw (k1_pay2 (blk1 (X10 m) c 0 t) (blk1 (X10 m) c 1 t)) fun j => ?_) _
  rw [after1_3]
  rfl

section
variable (x0 : (⟨S2x512x28x28, .f32⟩ : BufTy).Contents (Elt Ideal)) (x1 : (⟨S2x1024x14x14, .f32⟩ : BufTy).Contents (Elt Ideal))
  (x2 : (⟨S100000x128, .f32⟩ : BufTy).Contents (Elt Ideal))
  (e0 : V0 m c (Proc.devRef .tc main_arg0) = x0) (e1 : V0 m c (Proc.devRef .tc main_arg1) = x1) (e2 : V0 m c (Proc.devRef .tc main_arg2) = x2)
  (h0 : Spec.Real x0) (h1 : Spec.Real x1) (h2 : Spec.Real x2)
include e0 e1 e2 h0 h1 h2

/-- The block of scores the second call reads. -/
theorem scores_apply (t : Fin cfg1.N) (b : Fin 2) (w h : Fin 28) :
    blk1 (X10 m) c 0 t (ix3 b w h)
      = Cert.ReferenceIdeal.Read.val_main_v241 (F := Ideal) x0 x1 x2 (ix1 ⟨b.val * 784 + h.val * 28 + w.val, by omega⟩) := by
  refine (block_scores (X10 m) c t b w h).trans ?_
  refine (scores_reshaped m c b w h).trans ?_
  exact first_score m c x0 x1 x2 e0 e1 e2 h0 h1 h2 _ _ b h w rfl rfl

omit e0 e1 e2 h0 h1 h2 in
/-- The order of the two factors of the inner sum does not matter. -/
theorem sum_swap (f g : Fin 28 → EReal) (k : Fin 28 → Fin 28 → EReal) :
    ∑ x, (∑ y, k x y * f y) * g x = ∑ x, (∑ y, f y * k x y) * g x :=
  Finset.sum_congr rfl fun x _ => congrArg (· * g x) (Finset.sum_congr rfl fun y _ => mul_comm _ _)

/-- THE MASKS: the kernel's second result is the reference's. -/
theorem masks_eq (b : Fin 2) (r s : Fin 224) :
    W12 m c (Proc.devRef .tc main_v33_1) (ix3 b r s) = Cert.ReferenceIdeal.Read.val_main_v343 (F := Ideal) x0 x1 x2 (ix3 b r s) := by
  obtain ⟨t, hw⟩ := masks_whole
  refine (congrFun (W12_of m c main_v33_1 (by decide)) _).trans ?_
  refine (masks_result m c t hw b r s).trans ?_
  have a0 := scores_apply m c x0 x1 x2 e0 e1 e2 h0 h1 h2 t b
  have a1 : ∀ r i, blk1 (X10 m) c 1 t (ix2 r i) = ((wt 16 7 28 r.val i.val : ℝ) : EReal) := fun r i =>
    (block_weights (X10 m) c t r i).trans (weights_kept m c r i)
  revert a0 a1
  generalize blk1 (X10 m) c 0 t = y
  generalize blk1 (X10 m) c 1 t = z
  intro a0 a1
  refine Eq.trans ?_ (Cert.ReferenceIdeal.Math.mask_apply x0 x1 x2 b r s).symm
  pointwise [k1_pay2, k1_pay1]
  simp only [a0, a1]
  exact sum_swap (fun y => ((wt 16 7 28 r.val y.val : ℝ) : EReal)) (fun x => ((wt 16 7 28 s.val x.val : ℝ) : EReal))
    (fun x y => Cert.ReferenceIdeal.Read.val_main_v241 (F := Ideal) x0 x1 x2 (ix1 ⟨b.val * 784 + y.val * 28 + x.val, by omega⟩))

/-- THE IMAGE SCORES: the kernel's first result is the reference's. -/
theorem images_eq (b : Fin 2) :
    W12 m c (Proc.devRef .tc main_v34) (ix1 b) = Cert.ReferenceIdeal.Read.val_main_v243 (F := Ideal) x0 x1 x2 (ix1 b) := by
  obtain ⟨t, hw⟩ := images_whole
  refine (images_reshaped m c b).trans ?_
  refine (images_result m c t hw b).trans ?_
  have a0 := scores_apply m c x0 x1 x2 e0 e1 e2 h0 h1 h2 t b
  revert a0
  generalize blk1 (X10 m) c 0 t = y
  intro a0
  have e : ∀ z : EReal, (k1_pay3 (F := Ideal) y (ix2 0 b) : EReal) ≤ z
      ↔ (Cert.ReferenceIdeal.Read.val_main_v243 (F := Ideal) x0 x1 x2 (ix1 b) : EReal) ≤ z := fun z => by
    rw [Cert.ReferenceIdeal.Math.image_le x0 x1 x2 b z]
    pointwise [k1_pay3, k1_pay1]
    rw [Cert.ReferenceIdeal.Math.word_bot, Finset.fold_max_le]
    simp only [a0]
    exact ⟨fun k h w => k.2 (w, h) (Finset.mem_univ _), fun k => ⟨bot_le, fun x _ => k x.2 x.1⟩⟩
  exact le_antisymm (α := EReal) ((e _).2 le_rfl) ((e _).1 le_rfl)

/-- Both results as whole arrays: the image scores. -/
theorem images_all : W12 m c (Proc.devRef .tc main_v34) = Cert.ReferenceIdeal.Read.val_main_v243 (F := Ideal) x0 x1 x2 := by
  funext i
  rw [eq_ix1 i]
  exact images_eq m c x0 x1 x2 e0 e1 e2 h0 h1 h2 (i 0)

/-- And the masks. -/
theorem masks_all : W12 m c (Proc.devRef .tc main_v33_1) = Cert.ReferenceIdeal.Read.val_main_v343 (F := Ideal) x0 x1 x2 := by
  funext i
  rw [eq_ix3 i]
  exact masks_eq m c x0 x1 x2 e0 e1 e2 h0 h1 h2 (i 0) (i 1) (i 2)

end

end Cert.KernelIdeal.Math

end
-- ==== Proof.Finite.lean ====
/- What the precondition says of the arguments: no element of them is infinite. -/
module

public import proofs.«01_k».proof.Pre_finite
public import proofs.«01_k».proof.Proof.Maps
public import Idealize.ShloMosaic.Lib.Affine
public import Idealize.ShloMosaic.Lib.ReduceAll

@[expose] public section

noncomputable section

namespace Cert.Pre_finite.Math

open Idealize.ShloMosaic Cert.Pre_finite

/-- The constant positive infinity. -/
theorem word_infinity : Ideal.ofBits .f32 0x7F800000#32 = ⊤ := by
  simp [Ideal.ofBits, Ideal.ieee]

/-- An element whose absolute value is below +∞ is a real number. -/
theorem real_of_less {t : Shape} (x : FVec Ideal t .f32) (hb : S_.BroadcastsInDim t (![] : Fin 0 → Fin t.rank)) (i : t.Idx)
    (h : cmpf .olt (Host.absf x) (broadcastInDim t ![] hb (constant S_ .f32 0x7F800000#32)) i = 1#1) :
    (x i : EReal) = ((x i : EReal).toReal : EReal) := by
  have k : BitVec.ofBool (decide (max (x i : EReal) (-(x i : EReal)) < Ideal.ofBits .f32 0x7F800000#32)) = 1#1 := h
  rw [word_infinity] at k
  revert k
  generalize (x i : EReal) = z
  intro k
  induction z using EReal.rec with
  | bot => simp at k
  | top => simp at k
  | coe r => rfl

variable [Facts]
open Facts

/-- Under the precondition every element of the three arguments is a real number. -/
theorem real_args (x0 : FVec Ideal S2x512x28x28 .f32) (x1 : FVec Ideal S2x1024x14x14 .f32) (x2 : FVec Ideal S100000x128 .f32)
    (h : fn (F := Ideal) x0 x1 x2 = fun _ => 1#1) : Spec.Real x0 ∧ Spec.Real x1 ∧ Spec.Real x2 := by
  have k := congrFun h fun a => a.elim0
  unfold fn at k
  obtain ⟨k, k2⟩ := IntOp.andi_eq_one.1 k
  obtain ⟨k0, k1⟩ := IntOp.andi_eq_one.1 k
  exact ⟨fun i => real_of_less x0 _ i (Host.reduce_andi_all _ _ _ _ _ k0 i),
    fun i => real_of_less x1 _ i (Host.reduce_andi_all _ _ _ _ _ k1 i),
    fun i => real_of_less x2 _ i (Host.reduce_andi_all _ _ _ _ _ k2 i)⟩

end Cert.Pre_finite.Math

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.WordRun
public import proofs.«01_k».proof.Proof.IdealRun
public import proofs.«01_k».proof.Proof.KernelValue
public import proofs.«01_k».proof.Proof.Finite
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments alone and ends with every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2.2, sem_eq_zero_of_no_sems (by decide) r.2⟩)
    (Cert.ReferenceIdeal.Value.run m g)

/-- The two constants that are read as exact numbers. -/
theorem constants : Cert.preserves_Kernel_KernelIdeal :=
  ⟨IdealRules.named_const.statement Cert.KernelIdeal.κ "w1" .f32 0xBCCCCCCD#32 ((-1 / 40 : ℝ) : EReal) rfl,
   IdealRules.named_const.statement Cert.KernelIdeal.κ "w2" .f32 0xBC638E39#32 ((-1 / 72 : ℝ) : EReal) rfl⟩

/-- From arguments without infinities the kernel ends with both results of the reference. -/
theorem same_results : Cert.algebraic_KernelIdeal_ReferenceIdeal_pre_finite := by
  intro m g m' g' hp hm
  have real := fun c : Dev Cert.KernelIdeal.nD => Cert.Pre_finite.Math.real_args _ _ _ (hp c)
  have images := fun c : Dev Cert.KernelIdeal.nD => Cert.KernelIdeal.Math.images_all m c _ _ _ rfl rfl rfl (real c).1 (real c).2.1 (real c).2.2
  have masks := fun c : Dev Cert.KernelIdeal.nD => Cert.KernelIdeal.Math.masks_all m c _ _ _ rfl rfl rfl (real c).1 (real c).2.1 (real c).2.2
  refine ⟨fun c => Cert.KernelIdeal.Run.W12 m c (Proc.devRef .tc Cert.KernelIdeal.main_v34),
    fun c => Cert.KernelIdeal.Run.W12 m c (Proc.devRef .tc Cert.KernelIdeal.main_v33_1), ?_, ?_⟩
  · exact (θ_run Cert.KernelIdeal.defs _ _).mono (fun _ h c =>
      ⟨h.1 c _ (Cert.KernelIdeal.Run.mem_uc Cert.KernelIdeal.main_v34 (by decide)),
       h.1 c _ (Cert.KernelIdeal.Run.mem_uc Cert.KernelIdeal.main_v33_1 (by decide)),
       (h.1 c _ (Cert.KernelIdeal.Run.mem_uc Cert.KernelIdeal.main_arg0 (by decide))).trans (Cert.KernelIdeal.Run.W12_main_arg0 m c),
       (h.1 c _ (Cert.KernelIdeal.Run.mem_uc Cert.KernelIdeal.main_arg1 (by decide))).trans (Cert.KernelIdeal.Run.W12_main_arg1 m c),
       (h.1 c _ (Cert.KernelIdeal.Run.mem_uc Cert.KernelIdeal.main_arg2 (by decide))).trans (Cert.KernelIdeal.Run.W12_main_arg2 m c)⟩)
      (Cert.KernelIdeal.Run.run_all m g)
  · refine (θ_run Cert.ReferenceIdeal.defs _ _).mono (fun _ h c => ⟨?_, ?_, (h c).2.2⟩) (Cert.ReferenceIdeal.Value.run m' g')
    · refine ((h c).1.trans (Cert.ReferenceIdeal.Read.val_main_v243_eq (StableHlo.launchContents m' c))).trans ?_
      refine Eq.trans ?_ (images c).symm
      exact congr (congrArg₂ _ (hm c).1 (hm c).2.1) (hm c).2.2
    · refine ((h c).2.1.trans (Cert.ReferenceIdeal.Read.val_main_v343_eq (StableHlo.launchContents m' c))).trans ?_
      refine Eq.trans ?_ (masks c).symm
      exact congr (congrArg₂ _ (hm c).1 (hm c).2.1) (hm c).2.2

/-- All the claims together. -/
theorem claim : Cert.Claim := ⟨Cert.Kernel.Gen.facts, Cert.KernelIdeal.Gen.facts, Cert.ReferenceIdeal.Gen.facts, Cert.Pre_finite.Gen.facts,
  fun m g _ => Cert.Kernel.Run.frame m g,
  fun m g _ => Cert.KernelIdeal.Run.frame m g,
  fun m g _ => Cert.KernelIdeal.Run.frame m g,
  fun m g _ => reference_frame m g,
  fun m g _ => reference_frame m g,
  constants, same_results⟩

end Cert.Proof

end
